-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S16384x512 : Shape := ⟨2, ![16384, 512]⟩
abbrev S3 : Shape := ⟨1, ![3]⟩
abbrev S12 : Shape := ⟨1, ![12]⟩
abbrev S_ : Shape := ⟨0, ![]⟩
abbrev S1 : Shape := ⟨1, ![1]⟩
abbrev S400x512 : Shape := ⟨2, ![400, 512]⟩
abbrev S224x512 : Shape := ⟨2, ![224, 512]⟩

abbrev nBuf : Space → Nat
  | .hbm => 2
  | .vmem => 1
  | .smem => 0
  | _ => 0

abbrev bufTy : (tb : Table) → Fin (tcTables nBuf tb) → BufTy
  | .hbm, ⟨0, _⟩ => ⟨S1024x512, .f32⟩
  | .hbm, ⟨1, _⟩ => ⟨S16384x512, .f32⟩
  | .local _ .vmem, ⟨0, _⟩ => ⟨S1024x512, .f32⟩
  | _, _ => ⟨S1024x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_11 : BitVec 32 := 1#32
  let v20 : BitVec 32 := Scalar.muli v10 c1_i32_11
  let v21 : BitVec 32 := Scalar.addi c0_i32 v20
  v21.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_13 : BitVec 32 := 1#32
  let v22 : BitVec 32 := Scalar.muli v7 c1_i32_13
  let v23 : BitVec 32 := Scalar.addi c0_i32_14 v22
  v23.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_16 : BitVec 32 := 1#32
  let v24 : BitVec 32 := Scalar.muli v16 c1_i32_16
  let v25 : BitVec 32 := Scalar.addi c0_i32_17 v24
  v25.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v17 : BitVec 32 := Scalar.addi v2 c12_i32
  let c16_i32_9 : BitVec 32 := 16#32
  let v18 : BitVec 32 := Scalar.remsi v17 c16_i32_9
  let c1_i32_19 : BitVec 32 := 1#32
  let v26 : BitVec 32 := Scalar.muli v18 c1_i32_19
  let v27 : BitVec 32 := Scalar.addi c0_i32_20 v26
  v27.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v28 : BitVec 32 := Scalar.muli v2 c1024_i32
  let c0_i32_22 : BitVec 32 := 0#32
  ![v28.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_23 : BitVec 32 := 1024#32
  let v30 : BitVec 32 := Scalar.muli v2 c1024_i32_23
  let c0_i32_308 : BitVec 32 := 0#32
  ![v30.toNat, 0]
def k0_dev5 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_306 : BitVec 32 := 1#32
  let v377 : BitVec 32 := Scalar.muli v16 c1_i32_306
  let v378 : BitVec 32 := Scalar.addi c0_i32_307 v377
  v378.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_24 : BitVec 32 := 1024#32
  let v31 : BitVec 32 := Scalar.muli v2 c1024_i32_24
  let c400_i32 : BitVec 32 := 400#32
  let v32 : BitVec 32 := Scalar.addi v31 c400_i32
  let c0_i32_315 : BitVec 32 := 0#32
  ![v32.toNat, 0]
def k0_dev6 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_313 : BitVec 32 := 1#32
  let v385 : BitVec 32 := Scalar.muli v16 c1_i32_313
  let v386 : BitVec 32 := Scalar.addi c0_i32_314 v385
  v386.toNat
def k0_dev7 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v17 : BitVec 32 := Scalar.addi v2 c12_i32
  let c16_i32_9 : BitVec 32 := 16#32
  let v18 : BitVec 32 := Scalar.remsi v17 c16_i32_9
  let c1_i32_320 : BitVec 32 := 1#32
  let v393 : BitVec 32 := Scalar.muli v18 c1_i32_320
  let v394 : BitVec 32 := Scalar.addi c0_i32_321 v393
  v394.toNat
def k0_dev8 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v17 : BitVec 32 := Scalar.addi v2 c12_i32
  let c16_i32_9 : BitVec 32 := 16#32
  let v18 : BitVec 32 := Scalar.remsi v17 c16_i32_9
  let c1_i32_327 : BitVec 32 := 1#32
  let v401 : BitVec 32 := Scalar.muli v18 c1_i32_327
  let v402 : BitVec 32 := Scalar.addi c0_i32_328 v401
  v402.toNat
def k0_off4 (d0 : Dev nD) (c0_i32_35 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v45 : BitVec 32 := Scalar.addi v4 c0_i32_35
  let c16_i32_36 : BitVec 32 := 16#32
  let v46 : BitVec 32 := Scalar.remsi v45 c16_i32_36
  let v47 : BitVec 32 := Scalar.addi v46 v3
  let c1024_i32_37 : BitVec 32 := 1024#32
  let v48 : BitVec 32 := Scalar.muli v47 c1024_i32_37
  let c0_i32_336 : BitVec 32 := 0#32
  ![v48.toNat, 0]
def k0_dev9 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_334 : BitVec 32 := 1#32
  let v409 : BitVec 32 := Scalar.muli v7 c1_i32_334
  let v410 : BitVec 32 := Scalar.addi c0_i32_335 v409
  v410.toNat
def k0_off5 (d0 : Dev nD) (c0_i32_55 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v73 : BitVec 32 := Scalar.addi v4 c0_i32_55
  let c16_i32_56 : BitVec 32 := 16#32
  let v74 : BitVec 32 := Scalar.remsi v73 c16_i32_56
  let v75 : BitVec 32 := Scalar.addi v74 v3
  let c1024_i32_57 : BitVec 32 := 1024#32
  let v76 : BitVec 32 := Scalar.muli v75 c1024_i32_57
  let c400_i32_58 : BitVec 32 := 400#32
  let v77 : BitVec 32 := Scalar.addi v76 c400_i32_58
  let c0_i32_343 : BitVec 32 := 0#32
  ![v77.toNat, 0]
def k0_dev10 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_341 : BitVec 32 := 1#32
  let v417 : BitVec 32 := Scalar.muli v7 c1_i32_341
  let v418 : BitVec 32 := Scalar.addi c0_i32_342 v417
  v418.toNat
def k0_dev11 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_348 : BitVec 32 := 1#32
  let v425 : BitVec 32 := Scalar.muli v10 c1_i32_348
  let v426 : BitVec 32 := Scalar.addi c0_i32_349 v425
  v426.toNat
def k0_dev12 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_355 : BitVec 32 := 1#32
  let v433 : BitVec 32 := Scalar.muli v10 c1_i32_355
  let v434 : BitVec 32 := Scalar.addi c0_i32_356 v433
  v434.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_160 : BitVec 32 := 1024#32
  let v207 : BitVec 32 := Scalar.muli v2 c1024_i32_160
  let c800_i32 : BitVec 32 := 800#32
  let v208 : BitVec 32 := Scalar.addi v207 c800_i32
  let c0_i32_364 : BitVec 32 := 0#32
  ![v208.toNat, 0]
def k0_dev13 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_362 : BitVec 32 := 1#32
  let v441 : BitVec 32 := Scalar.muli v7 c1_i32_362
  let v442 : BitVec 32 := Scalar.addi c0_i32_363 v441
  v442.toNat
def k0_dev14 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_369 : BitVec 32 := 1#32
  let v449 : BitVec 32 := Scalar.muli v10 c1_i32_369
  let v450 : BitVec 32 := Scalar.addi c0_i32_370 v449
  v450.toNat
def k0_off7 (d0 : Dev nD) (c0_i32_169 : BitVec 32) (c0_i32_167 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v218 : BitVec 32 := Scalar.addi v4 c0_i32_169
  let c16_i32_170 : BitVec 32 := 16#32
  let v219 : BitVec 32 := Scalar.remsi v218 c16_i32_170
  let v216 : BitVec 32 := Scalar.addi v3 c0_i32_167
  let c4_i32_168 : BitVec 32 := 4#32
  let v217 : BitVec 32 := Scalar.remsi v216 c4_i32_168
  let v220 : BitVec 32 := Scalar.addi v219 v217
  let c1024_i32_171 : BitVec 32 := 1024#32
  let v221 : BitVec 32 := Scalar.muli v220 c1024_i32_171
  let c800_i32_172 : BitVec 32 := 800#32
  let v222 : BitVec 32 := Scalar.addi v221 c800_i32_172
  let c0_i32_378 : BitVec 32 := 0#32
  ![v222.toNat, 0]
def k0_off7_at (r : Fin 12) : BitVec 32 × BitVec 32 :=
  if r.val < 6 then
    if r.val < 3 then
      if r.val < 1 then
        (0#32, 0#32)
      else
        if r.val < 2 then
          (0#32, 3#32)
        else
          (0#32, 1#32)
    else
      if r.val < 4 then
        (0#32, 2#32)
      else
        if r.val < 5 then
          (12#32, 0#32)
        else
          (12#32, 1#32)
  else
    if r.val < 9 then
      if r.val < 7 then
        (12#32, 2#32)
      else
        if r.val < 8 then
          (12#32, 3#32)
        else
          (8#32, 0#32)
    else
      if r.val < 10 then
        (8#32, 1#32)
      else
        if r.val < 11 then
          (8#32, 2#32)
        else
          (8#32, 3#32)
def k0_dev15 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_376 : BitVec 32 := 1#32
  let v457 : BitVec 32 := Scalar.muli v16 c1_i32_376
  let v458 : BitVec 32 := Scalar.addi c0_i32_377 v457
  v458.toNat
def k0_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_390 : BitVec 32 := 1#32
  let v471 : BitVec 32 := Scalar.muli v7 c1_i32_390
  let v472 : BitVec 32 := Scalar.addi c0_i32_391 v471
  v472.toNat
def k0_dev17 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_396 : BitVec 32 := 1#32
  let v479 : BitVec 32 := Scalar.muli v16 c1_i32_396
  let v480 : BitVec 32 := Scalar.addi c0_i32_397 v479
  v480.toNat
def k0_dev18 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_409 : BitVec 32 := 1#32
  let v493 : BitVec 32 := Scalar.muli v16 c1_i32_409
  let v494 : BitVec 32 := Scalar.addi c0_i32_410 v493
  v494.toNat
def k0_dev19 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_421 : BitVec 32 := 1#32
  let v507 : BitVec 32 := Scalar.muli v16 c1_i32_421
  let v508 : BitVec 32 := Scalar.addi c0_i32_422 v507
  v508.toNat
def k0_off8 (d0 : Dev nD) (c0_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v108 : BitVec 32 := Scalar.addi v4 c0_i32_83
  let c16_i32_84 : BitVec 32 := 16#32
  let v109 : BitVec 32 := Scalar.remsi v108 c16_i32_84
  let c3_i32_3 : BitVec 32 := 3#32
  let v11 : BitVec 32 := Scalar.addi v3 c3_i32_3
  let c4_i32_4 : BitVec 32 := 4#32
  let v12 : BitVec 32 := Scalar.remsi v11 c4_i32_4
  let v110 : BitVec 32 := Scalar.addi v109 v12
  let c1024_i32_85 : BitVec 32 := 1024#32
  let v111 : BitVec 32 := Scalar.muli v110 c1024_i32_85
  let c0_i32_436 : BitVec 32 := 0#32
  ![v111.toNat, 0]
def k0_dev20 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_434 : BitVec 32 := 1#32
  let v521 : BitVec 32 := Scalar.muli v7 c1_i32_434
  let v522 : BitVec 32 := Scalar.addi c0_i32_435 v521
  v522.toNat
def k0_off9 (d0 : Dev nD) (c0_i32_144 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v187 : BitVec 32 := Scalar.addi v4 c0_i32_144
  let c16_i32_145 : BitVec 32 := 16#32
  let v188 : BitVec 32 := Scalar.remsi v187 c16_i32_145
  let c1_i32_5 : BitVec 32 := 1#32
  let v13 : BitVec 32 := Scalar.addi v3 c1_i32_5
  let c4_i32_6 : BitVec 32 := 4#32
  let v14 : BitVec 32 := Scalar.remsi v13 c4_i32_6
  let v189 : BitVec 32 := Scalar.addi v188 v14
  let c1024_i32_146 : BitVec 32 := 1024#32
  let v190 : BitVec 32 := Scalar.muli v189 c1024_i32_146
  let c400_i32_147 : BitVec 32 := 400#32
  let v191 : BitVec 32 := Scalar.addi v190 c400_i32_147
  let c0_i32_449 : BitVec 32 := 0#32
  ![v191.toNat, 0]
def k0_dev21 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_447 : BitVec 32 := 1#32
  let v535 : BitVec 32 := Scalar.muli v10 c1_i32_447
  let v536 : BitVec 32 := Scalar.addi c0_i32_448 v535
  v536.toNat
def k0_dev22 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_460 : BitVec 32 := 1#32
  let v549 : BitVec 32 := Scalar.muli v16 c1_i32_460
  let v550 : BitVec 32 := Scalar.addi c0_i32_461 v549
  v550.toNat
def k0_dev23 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_465 : BitVec 32 := 1#32
  let v557 : BitVec 32 := Scalar.muli v7 c1_i32_465
  let v558 : BitVec 32 := Scalar.addi c0_i32_466 v557
  v558.toNat
def k0_dev24 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_471 : BitVec 32 := 1#32
  let v565 : BitVec 32 := Scalar.muli v10 c1_i32_471
  let v566 : BitVec 32 := Scalar.addi c0_i32_472 v565
  v566.toNat
def k0_dev25 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_483 : BitVec 32 := 1#32
  let v579 : BitVec 32 := Scalar.muli v7 c1_i32_483
  let v580 : BitVec 32 := Scalar.addi c0_i32_484 v579
  v580.toNat
def k0_dev26 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_489 : BitVec 32 := 1#32
  let v587 : BitVec 32 := Scalar.muli v10 c1_i32_489
  let v588 : BitVec 32 := Scalar.addi c0_i32_490 v587
  v588.toNat
def k0_dev27 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_502 : BitVec 32 := 1#32
  let v601 : BitVec 32 := Scalar.muli v7 c1_i32_502
  let v602 : BitVec 32 := Scalar.addi c0_i32_503 v601
  v602.toNat
def k0_dev28 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_508 : BitVec 32 := 1#32
  let v609 : BitVec 32 := Scalar.muli v10 c1_i32_508
  let v610 : BitVec 32 := Scalar.addi c0_i32_509 v609
  v610.toNat
def k0_dev29 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v17 : BitVec 32 := Scalar.addi v2 c12_i32
  let c16_i32_9 : BitVec 32 := 16#32
  let v18 : BitVec 32 := Scalar.remsi v17 c16_i32_9
  let c1_i32_521 : BitVec 32 := 1#32
  let v623 : BitVec 32 := Scalar.muli v18 c1_i32_521
  let v624 : BitVec 32 := Scalar.addi c0_i32_522 v623
  v624.toNat
def k0_dev30 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_527 : BitVec 32 := 1#32
  let v631 : BitVec 32 := Scalar.muli v7 c1_i32_527
  let v632 : BitVec 32 := Scalar.addi c0_i32_528 v631
  v632.toNat
def k0_dev31 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_533 : BitVec 32 := 1#32
  let v639 : BitVec 32 := Scalar.muli v10 c1_i32_533
  let v640 : BitVec 32 := Scalar.addi c0_i32_534 v639
  v640.toNat
def k0_dev32 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_546 : BitVec 32 := 1#32
  let v653 : BitVec 32 := Scalar.muli v16 c1_i32_546
  let v654 : BitVec 32 := Scalar.addi c0_i32_547 v653
  v654.toNat
def k0_dev33 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_557 : BitVec 32 := 1#32
  let v667 : BitVec 32 := Scalar.muli v16 c1_i32_557
  let v668 : BitVec 32 := Scalar.addi c0_i32_558 v667
  v668.toNat
def k0_dev34 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_568 : BitVec 32 := 1#32
  let v681 : BitVec 32 := Scalar.muli v16 c1_i32_568
  let v682 : BitVec 32 := Scalar.addi c0_i32_569 v681
  v682.toNat
def k0_dev35 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_579 : BitVec 32 := 1#32
  let v695 : BitVec 32 := Scalar.muli v16 c1_i32_579
  let v696 : BitVec 32 := Scalar.addi c0_i32_580 v695
  v696.toNat
def k0_dev36 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_591 : BitVec 32 := 1#32
  let v709 : BitVec 32 := Scalar.muli v7 c1_i32_591
  let v710 : BitVec 32 := Scalar.addi c0_i32_592 v709
  v710.toNat
def k0_dev37 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_597 : BitVec 32 := 1#32
  let v717 : BitVec 32 := Scalar.muli v10 c1_i32_597
  let v718 : BitVec 32 := Scalar.addi c0_i32_598 v717
  v718.toNat
def k0_dev38 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_609 : BitVec 32 := 1#32
  let v731 : BitVec 32 := Scalar.muli v7 c1_i32_609
  let v732 : BitVec 32 := Scalar.addi c0_i32_610 v731
  v732.toNat
def k0_dev39 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_615 : BitVec 32 := 1#32
  let v739 : BitVec 32 := Scalar.muli v10 c1_i32_615
  let v740 : BitVec 32 := Scalar.addi c0_i32_616 v739
  v740.toNat
def k0_dev40 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_626 : BitVec 32 := 1#32
  let v753 : BitVec 32 := Scalar.muli v7 c1_i32_626
  let v754 : BitVec 32 := Scalar.addi c0_i32_627 v753
  v754.toNat
def k0_dev41 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_638 : BitVec 32 := 1#32
  let v767 : BitVec 32 := Scalar.muli v10 c1_i32_638
  let v768 : BitVec 32 := Scalar.addi c0_i32_639 v767
  v768.toNat
def k0_dev42 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_650 : BitVec 32 := 1#32
  let v781 : BitVec 32 := Scalar.muli v7 c1_i32_650
  let v782 : BitVec 32 := Scalar.addi c0_i32_651 v781
  v782.toNat
def k0_dev43 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_662 : BitVec 32 := 1#32
  let v795 : BitVec 32 := Scalar.muli v10 c1_i32_662
  let v796 : BitVec 32 := Scalar.addi c0_i32_663 v795
  v796.toNat
def k0_dev44 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_674 : BitVec 32 := 1#32
  let v809 : BitVec 32 := Scalar.muli v7 c1_i32_674
  let v810 : BitVec 32 := Scalar.addi c0_i32_675 v809
  v810.toNat
def k0_dev45 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_686 : BitVec 32 := 1#32
  let v823 : BitVec 32 := Scalar.muli v10 c1_i32_686
  let v824 : BitVec 32 := Scalar.addi c0_i32_687 v823
  v824.toNat
def k0_dev46 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_698 : BitVec 32 := 1#32
  let v837 : BitVec 32 := Scalar.muli v16 c1_i32_698
  let v838 : BitVec 32 := Scalar.addi c0_i32_699 v837
  v838.toNat
def k0_dev47 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_710 : BitVec 32 := 1#32
  let v851 : BitVec 32 := Scalar.muli v16 c1_i32_710
  let v852 : BitVec 32 := Scalar.addi c0_i32_711 v851
  v852.toNat
def k0_dev48 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_722 : BitVec 32 := 1#32
  let v865 : BitVec 32 := Scalar.muli v16 c1_i32_722
  let v866 : BitVec 32 := Scalar.addi c0_i32_723 v865
  v866.toNat
def k0_dev49 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_734 : BitVec 32 := 1#32
  let v879 : BitVec 32 := Scalar.muli v16 c1_i32_734
  let v880 : BitVec 32 := Scalar.addi c0_i32_735 v879
  v880.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x512 : Shape := ⟨2, ![16384, 512]⟩

abbrev nBuf : Space → Nat
  | .hbm => 1
  | .vmem => 0
  | .smem => 0
  | _ => 0

abbrev bufTy : (tb : Table) → Fin (tcTables nBuf tb) → BufTy
  | .hbm, ⟨0, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Table.lean ====
/-
# The copies and the order they run in

The kernel gathers the sixteen blocks of 1024 rows by 45 remote copies per device, each of one part of one block:
400 rows at the top (`o2`, `o4`, `o8` offsets), 400 at the bottom (`o3`, `o5`, `o9`), or the 224 that remain (`o6`,
`o7`). This module lists the copies (`ents`: where each copy lands, its two semaphores; `devs`: its target), lists the
order in which the body starts and awaits them (`acts`), and shows that the printed body is exactly the barrier,
the local copy and that list (`body_eq`).
-/
module

public import proofs.«01_k».proof.Proof.Gen.KernelIdeal.Frame

@[expose] public section

noncomputable section

namespace Cert.KernelIdeal.Gather

open Idealize.ShloMosaic Idealize.SL.Sem
open Cert.KernelIdeal.Gen

variable {F : FTy → Type} [FloatOps F]

/-- The names the program has for a copy's offsets in the output. -/
inductive Nm
  | o2 | o3 | o4 (r : Fin 4) | o5 (r : Fin 4) | o6 | o7 (r : Fin 12) | o8 (r : Fin 4) | o9 (r : Fin 4)

/-- Which part of a block: `0` the top 400 rows, `1` the next 400, `2` the last 224. -/
def Nm.part : Nm → Fin 3
  | .o2 => 0 | .o3 => 1 | .o4 _ => 0 | .o5 _ => 1 | .o6 => 2 | .o7 _ => 2 | .o8 _ => 0 | .o9 _ => 1

/-- A part's first row within its block. -/
def lo (p : Fin 3) : Nat := 400 * p.val

/-- A part's number of rows. -/
def ht (p : Fin 3) : Nat := bif p.val == 2 then 224 else 400

/-- A part's shape. -/
abbrev shp (p : Fin 3) : Shape := ⟨2, ![ht p, 512]⟩

/-- The offsets a name stands for on device `d`. -/
def Nm.off (d : Dev nD) : Nm → Fin 2 → Nat
  | .o2 => k0_off2 d
  | .o3 => k0_off3 d
  | .o4 r => k0_off4 d (BitVec.ofNat 32 (4 * r.val))
  | .o5 r => k0_off5 d (BitVec.ofNat 32 (4 * r.val))
  | .o6 => k0_off6 d
  | .o7 r => k0_off7 d (k0_off7_at r).1 (k0_off7_at r).2
  | .o8 r => k0_off8 d (BitVec.ofNat 32 (4 * r.val))
  | .o9 r => k0_off9 d (BitVec.ofNat 32 (4 * r.val))

/-- Every named window lies in the output. -/
theorem Nm.inb (d : Dev nD) : ∀ (n : Nm) (a : Fin 2), n.off d a + (shp n.part).size a ≤ S16384x512.size a
  | .o2 => k0_off2_inb d
  | .o3 => k0_off3_inb d
  | .o4 r => k0_off4_inb d r
  | .o5 r => k0_off5_inb d r
  | .o6 => k0_off6_inb d
  | .o7 r => k0_off7_inb d r
  | .o8 r => k0_off8_inb d r
  | .o9 r => k0_off9_inb d r

/-- The copies in the order they start: the offsets' name, the send semaphore, the receive semaphore. -/
def ents : List (Nm × Fin 92 × Fin 92) := [
  (.o2, 1, 4), (.o3, 2, 5), (.o2, 7, 10), (.o3, 8, 11), (.o4 0, 13, 25), (.o5 0, 14, 26),
  (.o4 0, 37, 49), (.o5 0, 38, 50), (.o6, 61, 64), (.o6, 62, 65), (.o7 0, 67, 79), (.o7 1, 63, 66),
  (.o7 1, 70, 82), (.o7 2, 68, 80), (.o7 3, 69, 81), (.o8 0, 15, 27), (.o9 0, 39, 51), (.o4 3, 3, 6),
  (.o4 3, 22, 34), (.o4 3, 46, 58), (.o5 3, 23, 35), (.o5 3, 47, 59), (.o4 1, 16, 28), (.o4 1, 40, 52),
  (.o5 1, 9, 12), (.o5 1, 17, 29), (.o5 1, 41, 53), (.o7 4, 71, 83), (.o7 5, 72, 84), (.o7 6, 73, 85),
  (.o7 7, 74, 86), (.o4 2, 19, 31), (.o4 2, 43, 55), (.o5 2, 20, 32), (.o5 2, 44, 56), (.o8 3, 24, 36),
  (.o9 3, 48, 60), (.o8 1, 18, 30), (.o9 1, 42, 54), (.o8 2, 21, 33), (.o9 2, 45, 57), (.o7 8, 75, 87),
  (.o7 9, 76, 88), (.o7 10, 77, 89), (.o7 11, 78, 90)]

/-- Copy `k`'s entry. -/
def ent (k : Fin 45) : Nm × Fin 92 × Fin 92 := ents.getD k.val (.o2, 0, 0)

/-- The targets' device words, in the same order. -/
def devs : List (Dev nD → Nat) := [
  k0_dev5, k0_dev6, k0_dev7, k0_dev8, k0_dev9, k0_dev10, k0_dev11, k0_dev12, k0_dev13,
  k0_dev14, k0_dev15, k0_dev16, k0_dev17, k0_dev18, k0_dev19, k0_dev20, k0_dev21, k0_dev22,
  k0_dev23, k0_dev24, k0_dev25, k0_dev26, k0_dev27, k0_dev28, k0_dev29, k0_dev30, k0_dev31,
  k0_dev32, k0_dev33, k0_dev34, k0_dev35, k0_dev36, k0_dev37, k0_dev38, k0_dev39, k0_dev40,
  k0_dev41, k0_dev42, k0_dev43, k0_dev44, k0_dev45, k0_dev46, k0_dev47, k0_dev48, k0_dev49]

/-- Copy `k`'s target device, as a number. -/
def devOf (k : Fin 45) : Dev nD → Nat := devs.getD k.val k0_dev5

set_option maxRecDepth 65536 in
/-- Every target is a device. -/
theorem devOf_lt : ∀ (k : Fin 45) (c : Dev nD), devOf k c < nD := by decide +kernel

/-- The target of copy `k` of device `c`. -/
def tgt (k : Fin 45) (c : Dev nD) : Dev nD := ⟨devOf k c, devOf_lt k c⟩

/-- The part copy `k` moves. -/
def part (k : Fin 45) : Fin 3 := (ent k).1.part

/-- Copy `k`'s send semaphore. -/
def ss (k : Fin 45) : DmaSem sig := (ent k).2.1

/-- Copy `k`'s receive semaphore. -/
def rs (k : Fin 45) : DmaSem sig := (ent k).2.2

/-- The first eleven copies read the staged input, the others the output. -/
def fromX (k : Fin 45) : Bool := Nat.blt k.val 11

/-- Copy `k`'s offsets on device `c`. -/
def off (k : Fin 45) (c : Dev nD) : Fin 2 → Nat := (ent k).1.off c

/-- They leave the window inside the output. -/
theorem off_inb (k : Fin 45) (c : Dev nD) (a : Fin 2) : off k c a + (shp (part k)).size a ≤ S16384x512.size a :=
  (ent k).1.inb c a

/-- The window of the output copy `k` of device `c` writes on its target (and, past the first eleven, reads on `c`). -/
def dM (k : Fin 45) (c : Dev nD) : Memref sig .tc .hbm (shp (part k)) .f32 :=
  (Memref.whole main_v1).slice (Rect.unit (s := S16384x512) (off k c) (shp (part k)).size (off_inb k c)) (fun _ => rfl)

/-- A part's offsets in the staged block. -/
def xoff (p : Fin 3) : Fin 2 → Nat := ![lo p, 0]

/-- A part lies in the staged block. -/
theorem xoff_inb : ∀ (p : Fin 3) (a : Fin 2), xoff p a + (shp p).size a ≤ S1024x512.size a := by decide

/-- Part `p` of the staged input. -/
def xM (p : Fin 3) : Memref sig .tc .vmem (shp p) .f32 :=
  (Memref.whole cc0_stg0_0).slice (Rect.unit (s := S1024x512) (xoff p) (shp p).size (xoff_inb p)) (fun _ => rfl)

/-- The whole own block of device `c` in the output. -/
def oM (c : Dev nD) : Memref sig .tc .hbm S1024x512 .f32 :=
  (Memref.whole main_v1).slice (Rect.unit (s := S16384x512) (k0_off1 c) S1024x512.size (k0_off1_inb c)) (fun _ => rfl)

/-- The local copy's semaphore. -/
abbrev os : DmaSem sig := cc0_scratch12.sem

/-- The barrier semaphore. -/
abbrev barR : Sem sig := (SemArray.scalar (sig.barrier 0 rfl) : Sems sig S_).sem

/-- One action on a copy: start it, await its arrival here, await its departure from here. -/
inductive Act
  | start (k : Fin 45) | recv (k : Fin 45) | send (k : Fin 45)

/-- The actions in program order. -/
def acts : List Act := [
  .start 0, .start 1, .start 2, .start 3, .start 4, .start 5, .start 6, .start 7, .start 8,
  .start 9, .start 10, .recv 8, .start 11, .start 12, .recv 9, .start 13, .recv 11, .start 14,
  .recv 4, .start 15, .recv 7, .start 16, .recv 0, .start 17, .start 18, .start 19, .recv 1,
  .start 20, .start 21, .recv 2, .start 22, .start 23, .recv 3, .start 24, .start 25, .start 26,
  .recv 10, .start 27, .recv 13, .start 28, .recv 14, .start 29, .recv 12, .start 30, .recv 17,
  .start 31, .start 32, .recv 24, .start 33, .start 34, .recv 18, .start 35, .recv 21, .start 36,
  .recv 22, .start 37, .recv 26, .start 38, .recv 31, .start 39, .recv 34, .start 40, .recv 27,
  .start 41, .recv 28, .start 42, .recv 29, .start 43, .recv 30, .start 44, .recv 15, .recv 16,
  .recv 25, .recv 23, .recv 37, .recv 38, .recv 33, .recv 32, .recv 39, .recv 40, .recv 20,
  .recv 19, .recv 35, .recv 36, .recv 5, .recv 6, .recv 41, .recv 42, .recv 43, .recv 44,
  .send 0, .send 1, .send 17, .send 2, .send 3, .send 24, .send 4, .send 22, .send 31,
  .send 18, .send 5, .send 25, .send 33, .send 20, .send 15, .send 37, .send 39, .send 35,
  .send 6, .send 23, .send 32, .send 19, .send 7, .send 26, .send 34, .send 21, .send 16,
  .send 38, .send 40, .send 36, .send 8, .send 9, .send 11, .send 10, .send 13, .send 14,
  .send 12, .send 27, .send 28, .send 29, .send 30, .send 41, .send 42, .send 43, .send 44]

/-- An action's operation on device `c`. -/
def Act.eff (c : Dev nD) : Act → TpuEff nD τ sig (Elt F) Λ₀ .tc PUnit
  | .start k => match fromX k with
    | true => .enqueueDma (xM (part k)) (.remote (Dev.tc (tgt k c)) (dM k c) (.dma (ss k))) (.dma (rs k))
        (View.wordExact_bits rfl) (View.wordExact_bits rfl) ⟨⟨rfl, Or.inl rfl⟩, trivial⟩
    | false => .enqueueDma (dM k c) (.remote (Dev.tc (tgt k c)) (dM k c) (.dma (ss k))) (.dma (rs k))
        (View.wordExact_bits rfl) (View.wordExact_bits rfl) ⟨⟨rfl, Or.inl rfl⟩, trivial⟩
  | .recv k => match fromX k with
    | true => .waitDma2 (rs k) (xM (part k)) (dM k c) (View.wordExact_bits rfl) (View.wordExact_bits rfl)
    | false => .waitDma2 (rs k) (dM k c) (dM k c) (View.wordExact_bits rfl) (View.wordExact_bits rfl)
  | .send k => match fromX k with
    | true => .waitDma2 (ss k) (dM k c) (xM (part k)) (View.wordExact_bits rfl) (View.wordExact_bits rfl)
    | false => .waitDma2 (ss k) (dM k c) (dM k c) (View.wordExact_bits rfl) (View.wordExact_bits rfl)

/-- A list of actions run in order on device `c`, then `t`. -/
def run (c : Dev nD) (t : Prog (TpuEff nD τ sig (Elt F) Λ₀ .tc) PUnit) : List Act → Prog (TpuEff nD τ sig (Elt F) Λ₀ .tc) PUnit
  | [] => t
  | a :: l => .op (a.eff c) fun _ => run c t l

/-- The body: the barrier with the four neighbours, the own block's local copy, the actions, the local copy's wait. -/
def bodyProg : Prog (TpuEff nD τ sig (Elt F) Λ₀ .tc) PUnit :=
  .op .deviceId fun c =>
  .op (.semSignal ((⟨k0_dev1 c, k0_dev1_lt c⟩ : Dev nD), .tc) barR (1#32).toInt) fun _ =>
  .op (.semSignal ((⟨k0_dev2 c, k0_dev2_lt c⟩ : Dev nD), .tc) barR (1#32).toInt) fun _ =>
  .op (.semSignal ((⟨k0_dev3 c, k0_dev3_lt c⟩ : Dev nD), .tc) barR (1#32).toInt) fun _ =>
  .op (.semSignal ((⟨k0_dev4 c, k0_dev4_lt c⟩ : Dev nD), .tc) barR (1#32).toInt) fun _ =>
  .op (.semWait barR (4#32).toInt) fun _ =>
  .op (.enqueueDma (Memref.whole cc0_stg0_0) (.here (oM c)) (.dma os) (Memref.isWhole_whole _).wordExact
    (View.wordExact_bits rfl) ⟨Or.inl rfl, trivial⟩) fun _ =>
  run c (.op (.waitDma2 os (Memref.whole cc0_stg0_0) (oM c) (Memref.isWhole_whole _).wordExact (View.wordExact_bits rfl)) .ret) acts

set_option maxRecDepth 65536 in
/-- The printed body is `bodyProg`. -/
theorem body_eq : cc0_body (F := F) (Memref.whole cc0_stg0_0) (Memref.isWhole_whole _) (Memref.whole main_v1) (Memref.isWhole_whole _)
    cc0_scratch0 cc0_scratch1 cc0_scratch2 cc0_scratch3 cc0_scratch4 cc0_scratch5 cc0_scratch6 cc0_scratch7 cc0_scratch8
    cc0_scratch9 cc0_scratch10 cc0_scratch11 cc0_scratch12 = bodyProg := by
  sl_kernel_rfl

end Cert.KernelIdeal.Gather

end
-- ==== Proof.Geom.lean ====
/-
# Where the copies go

The devices form a ring of four inside each group of four, and the four groups form a ring. Each copy goes one step
along one of the two rings (`nb`, `dir`, `tgt_eq`). The block a copy moves is the sender's own block moved by a fixed
number of steps in both rings (`blk`, `off_eq`). From this follow, for each device, the blocks that land there (`lb`):
each part of each foreign block lands exactly once (`lb_inj`, `lb_ne`, `lb_cover`), and each copy that forwards reads
what an earlier copy landed (`src`, `src_part`, `src_blk`).
-/
module

public import proofs.«01_k».proof.Proof.Table

@[expose] public section

noncomputable section

namespace Cert.KernelIdeal.Gather

open Idealize.ShloMosaic Idealize.SL.Sem
open Cert.KernelIdeal.Gen

variable {F : FTy → Type} [FloatOps F]

/-! ## The two rings -/

/-- The device `z` groups and `e` places further on than `c`. -/
def at_ (z e : Nat) (c : Dev nD) : Dev nD :=
  ⟨((c.val / 4 + z) % 4) * 4 + (c.val % 4 + e) % 4, by
    have h1 := Nat.mod_lt (c.val / 4 + z) (show 0 < 4 by decide)
    have h2 := Nat.mod_lt (c.val % 4 + e) (show 0 < 4 by decide)
    show _ < 16; omega⟩

/-- The neighbours: `0` right, `1` left, `2` up, `3` down. -/
def nb (a : Fin 4) (c : Dev nD) : Dev nD :=
  match a with | 0 => at_ 0 1 c | 1 => at_ 0 3 c | 2 => at_ 1 0 c | 3 => at_ 3 0 c

/-- The opposite direction. -/
def opp (a : Fin 4) : Fin 4 := match a with | 0 => 1 | 1 => 0 | 2 => 3 | 3 => 2

/-- The opposite of the opposite is the direction itself. -/
theorem opp_opp : ∀ a, opp (opp a) = a := by decide

/-- A step and the opposite step lead back. -/
theorem nb_opp_nb : ∀ (a : Fin 4) (c : Dev nD), nb (opp a) (nb a c) = c := by decide +kernel

/-- And the other way round. -/
theorem nb_nb_opp (a : Fin 4) (c : Dev nD) : nb a (nb (opp a) c) = c := by
  have h := nb_opp_nb (opp a) c
  rwa [opp_opp] at h

/-- The direction copy `k` goes. -/
def dir (k : Fin 45) : Fin 4 :=
  ([2, 2, 3, 3, 0, 0, 1, 1, 0, 1, 2, 0, 2, 2, 2, 0, 1, 2, 0, 1, 0, 1, 0, 1, 3, 0, 1, 2, 2, 2, 2, 0, 1, 0, 1, 0, 1, 0, 1,
    0, 1, 2, 2, 2, 2] : List (Fin 4)).getD k.val 0

set_option maxRecDepth 65536 in
/-- Copy `k`'s target is the neighbour in its direction. -/
theorem tgt_eq : ∀ (k : Fin 45) (c : Dev nD), tgt k c = nb (dir k) c := by decide +kernel

/-- The device copy `k` reaches `c` from. -/
def frm (k : Fin 45) (c : Dev nD) : Dev nD := nb (opp (dir k)) c

/-- The device copy `k` reaches `c` from has `c` as its target. -/
theorem tgt_frm (k : Fin 45) (c : Dev nD) : tgt k (frm k c) = c := by rw [tgt_eq]; exact nb_nb_opp _ _

/-- A copy's target is reached from the device that sends. -/
theorem frm_tgt (k : Fin 45) (c : Dev nD) : frm k (tgt k c) = c := by rw [tgt_eq]; exact nb_opp_nb _ _

/-! ## The blocks -/

/-- How far from the sender's own block the block of a named window lies: groups, then places. -/
def Nm.pos : Nm → Nat × Nat
  | .o2 => (0, 0) | .o3 => (0, 0) | .o4 r => (r.val, 0) | .o5 r => (r.val, 0) | .o6 => (0, 0)
  | .o7 r => ((k0_off7_at r).1.toNat / 4, (k0_off7_at r).2.toNat) | .o8 r => (r.val, 3) | .o9 r => (r.val, 1)

/-- The block copy `k` of device `c` moves. -/
def blk (k : Fin 45) (c : Dev nD) : Dev nD := at_ (ent k).1.pos.1 (ent k).1.pos.2 c

set_option maxRecDepth 65536 in
/-- Copy `k`'s window is its part of that block. -/
theorem off_eq : ∀ (k : Fin 45) (c : Dev nD), off k c = ![1024 * (blk k c).val + lo (part k), 0] := by decide +kernel

/-- The block copy `k` lands on device `c`. -/
def lb (k : Fin 45) (c : Dev nD) : Dev nD := blk k (frm k c)

set_option maxRecDepth 65536 in
/-- The copies that read the input move the sender's own block. -/
theorem blk_x : ∀ (k : Fin 45) (c : Dev nD), fromX k = true → blk k c = c := by decide +kernel

/-- The copy whose landing a forwarding copy reads. -/
def src (k : Fin 45) : Fin 45 :=
  ([0, 0, 0, 0, 0, 0, 0, 0, 0, 0, 0, 8, 8, 9, 11, 4, 7, 0, 0, 0, 1, 1, 2, 2, 3, 3, 3, 10, 13, 14, 12, 17, 17, 24, 24, 18,
    21, 22, 26, 31, 34, 27, 28, 29, 30] : List (Fin 45)).getD k.val 0

/-- A forwarding copy reads the part that the copy before it landed. -/
theorem src_part : ∀ k : Fin 45, fromX k = false → part (src k) = part k := by decide +kernel

/-- A forwarding copy does not read its own landing. -/
theorem src_ne : ∀ k : Fin 45, fromX k = false → src k ≠ k := by decide +kernel

set_option maxRecDepth 65536 in
/-- A forwarding copy reads the block that the copy before it landed. -/
theorem src_blk : ∀ (k : Fin 45) (c : Dev nD), fromX k = false → lb (src k) c = blk k c := by decide +kernel

set_option maxRecDepth 65536 in
/-- No two copies land the same part of the same block on one device. -/
theorem lb_inj : ∀ (c : Dev nD) (k k' : Fin 45), part k = part k' → lb k c = lb k' c → k = k' := by decide +kernel

set_option maxRecDepth 65536 in
/-- No copy lands a device's own block. -/
theorem lb_ne : ∀ (c : Dev nD) (k : Fin 45), lb k c ≠ c := by decide +kernel

set_option maxRecDepth 65536 in
/-- Every part of every foreign block lands. -/
theorem lb_cover : ∀ (c b : Dev nD) (p : Fin 3), b ≠ c → ∃ k, part k = p ∧ lb k c = b := by decide +kernel

end Cert.KernelIdeal.Gather

end
-- ==== Proof.Region.lean ====
/-
# The regions of the output and what they hold

The output is the devices' own blocks side by side (`gath`). Every copy writes a region of the output with what
`gath` holds there (`dM_write`, `xM_write`, `oM_write`). A device's own block and the regions that land on it are
disjoint and make up its whole output (`own_disj`, `reg_disj`, `cover`).
-/
module

public import proofs.«01_k».proof.Proof.Geom

@[expose] public section

noncomputable section

namespace Cert.KernelIdeal.Gather

open Idealize.ShloMosaic Idealize.SL.Sem
open Cert.KernelIdeal.Gen

variable {F : FTy → Type} [FloatOps F]

/-- Every part lies inside its block. -/
theorem lo_ht : ∀ p : Fin 3, lo p + ht p ≤ 1024 := by decide

/-- Every row of a block lies in some part. -/
theorem part_of_row : ∀ r : Nat, r < 1024 → ∃ p : Fin 3, lo p ≤ r ∧ r < lo p + ht p := fun r h => by
  by_cases h1 : r < 400
  · exact ⟨0, by show 400 * 0 ≤ r ∧ r < 400 * 0 + 400; omega⟩
  · by_cases h2 : r < 800
    · exact ⟨1, by show 400 * 1 ≤ r ∧ r < 400 * 1 + 400; omega⟩
    · exact ⟨2, by show 400 * 2 ≤ r ∧ r < 400 * 2 + 224; omega⟩

/-- Different parts share no row. -/
theorem part_sep : ∀ p p' : Fin 3, p ≠ p' → lo p + ht p ≤ lo p' ∨ lo p' + ht p' ≤ lo p := by decide

/-- Part `p` of block `b` in the output. -/
def reg (b : Dev nD) (p : Fin 3) : Finset S16384x512.Idx :=
  Finset.univ.filter fun i => 1024 * b.val + lo p ≤ (i 0).val ∧ (i 0).val < 1024 * b.val + lo p + ht p

/-- Block `b` in the output. -/
def own (b : Dev nD) : Finset S16384x512.Idx :=
  Finset.univ.filter fun i => 1024 * b.val ≤ (i 0).val ∧ (i 0).val < 1024 * b.val + 1024

/-- Part `p` of the staged input. -/
def xreg (p : Fin 3) : Finset S1024x512.Idx :=
  Finset.univ.filter fun i => lo p ≤ (i 0).val ∧ (i 0).val < lo p + ht p

/-- Copy `k`'s window is a region. -/
theorem dM_set (k : Fin 45) (c : Dev nD) : (dM k c).view.set = reg (blk k c) (part k) := by
  refine Finset.ext fun (i : S16384x512.Idx) => ?_
  refine (iff_of_eq (congrArg (i ∈ ·) (View.set_slice_whole _ _))).trans ?_
  refine Rect.mem_set_unit.trans ?_
  refine Iff.trans ?_ (Finset.mem_filter.trans (and_iff_right (Finset.mem_univ _))).symm
  rw [off_eq]
  constructor
  · intro h; exact h 0
  · intro h a
    match a with
    | 0 => exact h
    | 1 => exact ⟨Nat.zero_le _, by show (i 1).val < 0 + 512; rw [Nat.zero_add]; exact (i 1).isLt⟩

/-- The local copy's window is the own block. -/
theorem oM_set (c : Dev nD) : (oM c).view.set = own c := by
  refine Finset.ext fun (i : S16384x512.Idx) => ?_
  refine (iff_of_eq (congrArg (i ∈ ·) (View.set_slice_whole _ _))).trans ?_
  refine Rect.mem_set_unit.trans ?_
  refine Iff.trans ?_ (Finset.mem_filter.trans (and_iff_right (Finset.mem_univ _))).symm
  rw [k0_off1_eq]
  constructor
  · intro h; exact h 0
  · intro h a
    match a with
    | 0 => exact h
    | 1 => exact ⟨Nat.zero_le _, by show (i 1).val < 0 + 512; rw [Nat.zero_add]; exact (i 1).isLt⟩

/-- A staged part's window is its region. -/
theorem xM_set (p : Fin 3) : (xM p).view.set = xreg p := by
  refine Finset.ext fun (i : S1024x512.Idx) => ?_
  refine (iff_of_eq (congrArg (i ∈ ·) (View.set_slice_whole _ _))).trans ?_
  refine Rect.mem_set_unit.trans ?_
  refine Iff.trans ?_ (Finset.mem_filter.trans (and_iff_right (Finset.mem_univ _))).symm
  constructor
  · intro h; exact h 0
  · intro h a
    match a with
    | 0 => exact h
    | 1 => exact ⟨Nat.zero_le _, by show (i 1).val < 0 + 512; rw [Nat.zero_add]; exact (i 1).isLt⟩

/-- The regions landing on a device are pairwise disjoint. -/
theorem reg_disj (c : Dev nD) (k k' : Fin 45) (h : k ≠ k') : Disjoint (reg (lb k c) (part k)) (reg (lb k' c) (part k')) := by
  rw [Finset.disjoint_left]
  intro i hi hi'
  have h1 := (Finset.mem_filter.mp hi).2
  have h2 := (Finset.mem_filter.mp hi').2
  have e1 := lo_ht (part k)
  have e2 := lo_ht (part k')
  by_cases hb : lb k c = lb k' c
  · have hp : part k ≠ part k' := fun hp => h (lb_inj c k k' hp hb)
    have := part_sep _ _ hp
    rw [hb] at h1
    omega
  · have : (lb k c).val ≠ (lb k' c).val := fun e => hb (Fin.ext e)
    omega

/-- None meets the own block. -/
theorem own_disj (c : Dev nD) (k : Fin 45) : Disjoint (own c) (reg (lb k c) (part k)) := by
  rw [Finset.disjoint_left]
  intro i hi hi'
  have h1 := (Finset.mem_filter.mp hi).2
  have h2 := (Finset.mem_filter.mp hi').2
  have e1 := lo_ht (part k)
  have : (lb k c).val ≠ c.val := fun e => lb_ne c k (Fin.ext e)
  omega

/-- With the own block they make up the output. -/
theorem cover (c : Dev nD) : own c ∪ Finset.univ.biUnion (fun k => reg (lb k c) (part k)) = Finset.univ := by
  ext i
  refine iff_of_true ?_ (Finset.mem_univ _)
  have hi : (i 0).val < 16384 := (i 0).isLt
  let b : Dev nD := ⟨(i 0).val / 1024, by show _ < 16; omega⟩
  have hb : b.val = (i 0).val / 1024 := rfl
  by_cases e : b = c
  · refine Finset.mem_union_left _ (Finset.mem_filter.mpr ⟨Finset.mem_univ _, ?_⟩)
    rw [← e]; omega
  · obtain ⟨p, hp⟩ := part_of_row ((i 0).val % 1024) (Nat.mod_lt _ (by decide))
    obtain ⟨k, rfl, hk⟩ := lb_cover c b p e
    refine Finset.mem_union_right _ (Finset.mem_biUnion.mpr ⟨k, Finset.mem_univ _, Finset.mem_filter.mpr ⟨Finset.mem_univ _, ?_⟩⟩)
    rw [hk]; omega

/-- The staged parts are pairwise disjoint. -/
theorem xreg_disj (p p' : Fin 3) (h : p ≠ p') : Disjoint (xreg p) (xreg p') := by
  rw [Finset.disjoint_left]
  intro i hi hi'
  have h1 := (Finset.mem_filter.mp hi).2
  have h2 := (Finset.mem_filter.mp hi').2
  have := part_sep _ _ h
  omega

/-- They make up the staged input. -/
theorem xcover : Finset.univ.biUnion xreg = Finset.univ := by
  ext i
  refine iff_of_true ?_ (Finset.mem_univ _)
  obtain ⟨p, hp⟩ := part_of_row (i 0).val (i 0).isLt
  exact Finset.mem_biUnion.mpr ⟨p, Finset.mem_univ _, Finset.mem_filter.mpr ⟨Finset.mem_univ _, hp⟩⟩

/-! ## The contents -/

/-- The index of an output row within its block. -/
def inBlock (i : S16384x512.Idx) : S1024x512.Idx
  | ⟨0, _⟩ => ⟨(i 0).val % 1024, Nat.mod_lt _ (by decide)⟩
  | ⟨1, _⟩ => ⟨(i 1).val, (i 1).isLt⟩

/-- The block an output row lies in. -/
def blockOf (i : S16384x512.Idx) : Dev nD :=
  ⟨(i 0).val / 1024, by have h : (i 0).val < 16384 := (i 0).isLt; show _ < 16; omega⟩

/-- The gathered array: block `b` is device `b`'s array. -/
def gath (xs : Dev nD → S1024x512.Idx → F .f32) (i : S16384x512.Idx) : F .f32 := xs (blockOf i) (inBlock i)

/-- Row `x 0` of block `c` of the gathered array is that row of device `c`'s array. -/
theorem gath_at (xs : Dev nD → S1024x512.Idx → F .f32) (c : Dev nD) (i : S16384x512.Idx) (x : S1024x512.Idx)
    (h0 : (i 0).val = 1024 * c.val + (x 0).val) (h1 : (i 1).val = (x 1).val) : gath xs i = xs c x := by
  have hx : (x 0).val < 1024 := (x 0).isLt
  have hb : blockOf i = c := Fin.ext (by show (i 0).val / 1024 = c.val; omega)
  have hi : inBlock i = x := funext fun a => match a with
    | ⟨0, _⟩ => Fin.ext (by show (i 0).val % 1024 = (x 0).val; omega)
    | ⟨1, _⟩ => Fin.ext h1
  rw [gath, hb, hi]

/-- A copy out of the output, whose source holds `g`, writes `g`. -/
theorem dM_write (k : Fin 45) (c : Dev nD) (f g : S16384x512.Idx → F .f32) (i : S16384x512.Idx) (hi : i ∈ (dM k c).view.set) :
    (dM k c).view.write (Elt F) f ((dM k c).view.read (Elt F) g) Finset.univ i = g i := by
  exact (congrFun (View.write_read_eq_piecewise (Val := Elt F) (v := (dM k c).view) f g Finset.univ) i).trans (Finset.piecewise_eq_of_mem _ _ _ hi)

/-- A copy out of the staged input writes the gathered array. -/
theorem xM_write (xs : Dev nD → S1024x512.Idx → F .f32) (k : Fin 45) (hk : fromX k = true) (c : Dev nD) (f : S16384x512.Idx → F .f32)
    (i : S16384x512.Idx) (hi : i ∈ (dM k c).view.set) :
    (dM k c).view.write (Elt F) f ((xM (part k)).view.read (Elt F) (xs c)) Finset.univ i = gath xs i := by
  obtain ⟨x, -, rfl⟩ := Finset.mem_map.mp hi
  refine (View.write_emb_of_mem (Val := Elt F) (v := (dM k c).view) f _ (Finset.mem_univ x)).trans ?_
  refine (gath_at xs c _ ((xM (part k)).view.emb x) ?_ ?_).symm
  · show off k c 0 + 1 * (x 0).val = 1024 * c.val + (lo (part k) + 1 * (x 0).val)
    rw [off_eq, blk_x k c hk]
    show 1024 * c.val + lo (part k) + 1 * (x 0).val = _
    omega
  · show off k c 1 + 1 * (x 1).val = 0 + 1 * (x 1).val
    rw [off_eq]; rfl

/-- The local copy writes the gathered array. -/
theorem oM_write (xs : Dev nD → S1024x512.Idx → F .f32) (c : Dev nD) (f : S16384x512.Idx → F .f32) (i : S16384x512.Idx)
    (hi : i ∈ (oM c).view.set) :
    (oM c).view.write (Elt F) f ((Memref.whole cc0_stg0_0).view.read (Elt F) (xs c)) Finset.univ i = gath xs i := by
  obtain ⟨x, -, rfl⟩ := Finset.mem_map.mp hi
  refine (View.write_emb_of_mem (Val := Elt F) (v := (oM c).view) f _ (Finset.mem_univ x)).trans ?_
  refine (gath_at xs c _ x ?_ ?_).symm
  · show k0_off1 c 0 + 1 * (x 0).val = 1024 * c.val + (x 0).val
    rw [k0_off1_eq]; show 1024 * c.val + 1 * (x 0).val = _; omega
  · show k0_off1 c 1 + 1 * (x 1).val = (x 1).val
    rw [k0_off1_eq]; show 0 + 1 * (x 1).val = _; omega

end Cert.KernelIdeal.Gather

end
-- ==== Proof.Proto.lean ====
/-
# The protocol of the copies

Every semaphore the body uses has one round. The barrier semaphore of device `c` is paid by the four neighbours; a
neighbour's unit hands `c` the regions of that neighbour's output that `c` will write. The receive semaphore of copy
`k` is paid by the copy that lands on `c` and hands over the region it wrote, holding the gathered array. The send
semaphore of copy `k` hands back the share of what the copy read, and the local copy's semaphore hands over the own
block and the share of the staged input it read.
-/
module

public import proofs.«01_k».proof.Proof.Region
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Resources -/

/-- The ghost state of the rounds, with up to four duties each. -/
abbrev UB : Type := URounds (GSem nD τ sig) (Fin 4)
/-- The ghost state of the staging and that of the rounds. -/
abbrev UU : Type := UR sig nD τ × UB

local notation "𝕄" => MT nD τ sig Unit (Elt F) ℕ UU ℕ

/-- Where the ghost state of the staging lies. -/
abbrev EP : Emb (UR sig nD τ) (MT nD τ sig Unit (Elt F) ℕ UU ℕ) := embL
/-- Where the ghost state of the rounds lies. -/
abbrev ER : Emb UB (MT nD τ sig Unit (Elt F) ℕ UU ℕ) := embR

variable (m : (ℓ : Loc nD τ sig) → Buf (Elt F) ℓ)

/-! ## Cells -/

/-- A copy's send semaphore, a copy's receive semaphore, the local copy's semaphore. -/
abbrev OI : Type := Fin 45 ⊕ Fin 45 ⊕ Fin 1

/-- The barrier semaphore and the others. -/
abbrev CI : Type := Fin 1 ⊕ OI

/-- The semaphore of an index other than the barrier. -/
abbrev osem : OI → SemLoc sig
  | .inl k => .dma (ss k)
  | .inr (.inl k) => .dma (rs k)
  | .inr (.inr _) => .dma os

/-- The semaphore of an index. -/
abbrev csem : CI → SemLoc sig
  | .inl _ => .reg barR
  | .inr i => osem i

/-- The barrier. -/
abbrev iB : CI := .inl 0
/-- Copy `k`'s send semaphore. -/
abbrev iS (k : Fin 45) : CI := .inr (.inl k)
/-- Copy `k`'s receive semaphore. -/
abbrev iR (k : Fin 45) : CI := .inr (.inr (.inl k))
/-- The local copy's semaphore. -/
abbrev iO : CI := .inr (.inr (.inr 0))

/-- The semaphore of an index on a device. -/
abbrev kcell (x : Dev nD × CI) : GSem nD τ sig := ((x.1 : Thread nD τ), csem x.2)

/-- All the indices, listed. -/
def ciList : List CI :=
  iB :: iO :: ((List.finRange 45).map iS ++ (List.finRange 45).map iR)

/-- The index of a semaphore. -/
def kindOf (s : SemLoc sig) : Option CI := ciList.find? fun i => decide (csem i = s)

set_option maxRecDepth 65536 in
/-- Every index is found back from its semaphore, so different indices name different semaphores. -/
theorem kindOf_csem : ∀ i : CI, kindOf (csem i) = some i := by decide +kernel

/-- Different indices name different semaphores. -/
theorem csem_inj : Function.Injective csem := fun i j h => by
  have := kindOf_csem i
  rw [h, kindOf_csem j] at this
  exact (Option.some.inj this).symm

/-- Different pairs of a device and an index name different cells. -/
theorem kcell_inj : Function.Injective kcell := fun x y h => by
  have h1 : x.1 = y.1 := by
    have := congrArg (fun g : GSem nD τ sig => g.1.1) h
    exact this
  exact Prod.ext h1 (csem_inj (congrArg Prod.snd h))

/-! ## Contents and shares -/

/-- Device `c`'s array. -/
abbrev xs (c : Dev nD) : S1024x512.Idx → F .f32 := m ((c : Thread nD τ).loc main_arg0)

/-- The gathered array. -/
abbrev gat : S16384x512.Idx → F .f32 := gath (xs m)

/-- Device `c`'s output. -/
abbrev oloc (c : Dev nD) : Loc nD τ sig := (c : Thread nD τ).loc main_v1
/-- Device `c`'s staged input. -/
abbrev xloc (c : Dev nD) : Loc nD τ sig := (c : Thread nD τ).loc cc0_stg0_0

/-- The copies that read part `p` of the staged input. -/
def rx (p : Fin 3) : Finset (Fin 45) := Finset.univ.filter fun k => fromX k = true ∧ part k = p

/-- The copies that read what copy `j` landed. -/
def rd (j : Fin 45) : Finset (Fin 45) := Finset.univ.filter fun k => fromX k = false ∧ src k = j

/-- What copy `k` of device `c` reads, at its share. -/
def piece (c : Dev nD) (k : Fin 45) : sProp 𝕄 :=
  if fromX k = true then xloc c ↦[xreg (part k)]{Transfers.dealOf fullShare.right (rx (part k)) k} xs m c
  else oloc c ↦[reg (blk k c) (part k)]{Transfers.dealOf fullShare (insert (src k) (rd (src k))) k} gat m

/-- What copy `j` landed on device `c`. -/
def landed (c : Dev nD) (j : Fin 45) : sProp 𝕄 := oloc c ↦[reg (lb j c) (part j)]{fullShare} gat m

/-- The share of it no copy reads. -/
def keep (c : Dev nD) (j : Fin 45) : sProp 𝕄 :=
  oloc c ↦[reg (lb j c) (part j)]{Transfers.dealOf fullShare (insert j (rd j)) j} gat m

/-- The region copy `k` of device `c` writes on its target, with any contents. -/
def room (c : Dev nD) (k : Fin 45) : sProp 𝕄 := iprop(∃ f, oloc (tgt k c) ↦[reg (blk k c) (part k)]{fullShare} f)

/-- The copies towards side `a`. -/
def side (a : Fin 4) : Finset (Fin 45) := Finset.univ.filter fun k => dir k = a

/-- What the neighbour on side `a` hands over at the barrier. -/
def barPay (c : Dev nD) (a : Fin 4) : sProp 𝕄 := bigSep (side a) fun k => room c k

/-- What the local copy's end hands over. -/
def ownPay (c : Dev nD) : sProp 𝕄 := iprop((oloc c ↦[own c]{fullShare} gat m) ∗ (xloc c ↦{fullShare.left} xs m c))

/-- What a copy reads may be handed over by a semaphore. -/
instance piece_storable (c : Dev nD) (k : Fin 45) : BI.Storable (upEmb : UEmb _ 𝕄) (piece (F := F) m c k) := by
  unfold piece; split <;> infer_instance
/-- What a copy landed may be handed over by a semaphore. -/
instance landed_storable (c : Dev nD) (k : Fin 45) : BI.Storable (upEmb : UEmb _ 𝕄) (landed (F := F) m c k) := by
  unfold landed; infer_instance
omit [FloatOps F] in
/-- The region a copy writes may be handed over by a semaphore. -/
instance room_storable (c : Dev nD) (k : Fin 45) : BI.Storable (upEmb : UEmb _ 𝕄) (room (F := F) c k) := by
  unfold room; infer_instance
omit [FloatOps F] in
/-- What a neighbour hands over may be handed over by a semaphore. -/
instance barPay_storable (c : Dev nD) (a : Fin 4) : BI.Storable (upEmb : UEmb _ 𝕄) (barPay (F := F) c a) := by
  unfold barPay; infer_instance
/-- What the local copy's end hands over may be handed over by a semaphore. -/
instance ownPay_storable (c : Dev nD) : BI.Storable (upEmb : UEmb _ 𝕄) (ownPay (F := F) m c) := by
  unfold ownPay; infer_instance

/-! ## The schedule -/

/-- Copy `k`'s credit. -/
def N (k : Fin 45) : ℕ := (dM k 0).view.dmaCredit
/-- The local copy's credit. -/
def NO : ℕ := (oM 0).view.dmaCredit

/-- A copy's credit is positive. -/
theorem N_pos (k : Fin 45) : 0 < N k := View.dmaCredit_pos _ (by revert k; decide +kernel)
/-- The local copy's credit is positive. -/
theorem NO_pos : 0 < NO := View.dmaCredit_pos _ (by decide +kernel)

/-- Who pays: the four sides at the barrier, one payer elsewhere. -/
def dutiesOf : CI → Finset (Fin 4)
  | .inl _ => Finset.univ
  | .inr _ => {0}

/-- How much one payer pays. -/
def amtOf : CI → ℕ
  | .inl _ => 1
  | .inr (.inl k) => N k
  | .inr (.inr (.inl k)) => N k
  | .inr (.inr (.inr _)) => NO

/-- Every payment is positive. -/
theorem amtOf_pos : ∀ i, 0 < amtOf i
  | .inl _ => Nat.one_pos
  | .inr (.inl k) => N_pos k
  | .inr (.inr (.inl k)) => N_pos k
  | .inr (.inr (.inr _)) => NO_pos

/-- What a payment hands over. -/
def payOf (c : Dev nD) : CI → Fin 4 → sProp 𝕄
  | .inl _, a => barPay c a
  | .inr (.inl k), _ => piece m c k
  | .inr (.inr (.inl k)), _ => landed m c k
  | .inr (.inr (.inr _)), _ => ownPay m c

/-- Every payment may be handed over by a semaphore. -/
instance payOf_storable (c : Dev nD) : ∀ i a, BI.Storable (upEmb : UEmb _ 𝕄) (payOf (F := F) m c i a)
  | .inl _, a => barPay_storable c a
  | .inr (.inl k), _ => piece_storable m c k
  | .inr (.inr (.inl k)), _ => landed_storable m c k
  | .inr (.inr (.inr _)), _ => ownPay_storable m c

/-- One round per semaphore. -/
def Rd : Rounds.Schedule (GSem nD τ sig) (Fin 4) 𝕄 where
  duties g r := if r = 0 ∧ g.1.2 = .tc then (match kindOf g.2 with | some i => dutiesOf i | none => ∅) else ∅
  unitless _ := False
  amount g _ _ := match kindOf g.2 with | some i => amtOf i | none => 1
  payload g _ a := match kindOf g.2 with | some i => payOf m g.1.1 i a | none => iprop(emp)
  amount_pos g _ _ _ := by
    split
    · exact amtOf_pos _
    · exact Nat.one_pos

/-- Every payload of the schedule may be handed over by a semaphore. -/
instance Rd_storable (g : GSem nD τ sig) (r : ℕ) (a : Fin 4) :
    BI.Storable (upEmb : UEmb _ 𝕄) ((Rd (F := F) m).payload g r a) := by
  dsimp only [Rd]
  split <;> infer_instance

section Sched
variable (c : Dev nD) (i : CI)

/-- The payers of the round of a cell. -/
theorem duties_eq : (Rd (F := F) m).duties (kcell (c, i)) 0 = dutiesOf i := by
  dsimp only [Rd]; rw [if_pos ⟨rfl, rfl⟩, kindOf_csem]

/-- There is no second round. -/
theorem duties_later (g : GSem nD τ sig) : ∀ r, 1 ≤ r → (Rd (F := F) m).duties g r = ∅ :=
  fun r hr => if_neg fun h => by omega

/-- What a payer of the round pays. -/
theorem amount_eq (a : Fin 4) : (Rd (F := F) m).amount (kcell (c, i)) 0 a = amtOf i := by
  dsimp only [Rd]; rw [kindOf_csem]

/-- What a payer of the round hands over. -/
theorem payload_eq (a : Fin 4) : (Rd (F := F) m).payload (kcell (c, i)) 0 a = payOf m c i a := by
  dsimp only [Rd]; rw [kindOf_csem]

/-- The barrier waits for four units. -/
theorem expect_bar : (Rd (F := F) m).expect (kcell (c, iB)) 0 = 4 := by
  unfold Schedule.expect Schedule.amountOf
  rw [duties_eq, Finset.sum_congr rfl fun d _ => amount_eq m c iB d]
  decide

/-- The other semaphores wait for their one payment. -/
theorem expect_own (i : OI) : (Rd (F := F) m).expect (kcell (c, .inr i)) 0 = amtOf (.inr i) := by
  unfold Schedule.expect Schedule.amountOf
  rw [duties_eq]; exact (Finset.sum_singleton _ _).trans (amount_eq m c _ 0)

/-- All that the barrier hands over: the rooms from the four sides. -/
theorem rest_bar : bigSep ((Rd (F := F) m).duties (kcell (c, iB)) 0 \ ∅) (fun a => (Rd (F := F) m).payload (kcell (c, iB)) 0 a)
    = bigSep Finset.univ fun a => barPay c a := by
  rw [Finset.sdiff_empty, duties_eq]; exact bigSep_congr fun a _ => payload_eq m c iB a

/-- All that another semaphore hands over: its one payload. -/
theorem rest_own (i : OI) : bigSep ((Rd (F := F) m).duties (kcell (c, .inr i)) 0 \ ∅)
    (fun a => (Rd (F := F) m).payload (kcell (c, .inr i)) 0 a) = payOf m c (.inr i) 0 := by
  rw [Finset.sdiff_empty, duties_eq]; exact bigSep_singleton.trans (payload_eq m c _ 0)

end Sched

/-! ## What is owed, and the levels -/

/-- The credit of the copies `U` still to start. -/
def toSend (c : Dev nD) (U : Finset (Fin 45)) : CellTallies nD τ sig Unit :=
  ∑ k ∈ U, tallyAt (kcell (tgt k c, iR k)) () (N k)

/-- The unit owed to the neighbour on side `a`. -/
def toBar (c : Dev nD) (a : Fin 4) : CellTallies nD τ sig Unit := tallyAt (kcell (nb a c, iB)) () 1

/-- All that device `c` owes at the start; the signals go left, right, up, down. -/
def O₀ (c : Dev nD) : CellTallies nD τ sig Unit :=
  toSend c Finset.univ + toBar c 3 + toBar c 2 + toBar c 0 + toBar c 1

/-- The labels of a cell: one on a device's core, none elsewhere. -/
def L (g : GSem nD τ sig) : Finset Unit := if g.1.2 = .tc then {()} else ∅

/-- The barrier below the receive semaphores, those in the order of the copies; the rest lowest. -/
def lv (g : GSem nD τ sig) (_ : Unit) : ℕ :=
  match kindOf g.2 with
  | some (.inl _) => 1
  | some (.inr (.inr (.inl k))) => k.val + 2
  | _ => 0

/-- No labels off the core. -/
theorem L_of_ne (g : GSem nD τ sig) (h : g.1.2 ≠ .tc) : L g = ∅ := if_neg h
/-- One label on the core. -/
theorem L_tc (c : Dev nD) (sm : SemLoc sig) : L ((c : Thread nD τ), sm) = {()} := if_pos rfl

/-- The barrier's level. -/
theorem lv_bar (c : Dev nD) : lv (kcell (c, iB)) () = 1 := by dsimp only [lv]; rw [kindOf_csem]
/-- A receive semaphore's level. -/
theorem lv_recv (c : Dev nD) (k : Fin 45) : lv (kcell (c, iR k)) () = k.val + 2 := by dsimp only [lv]; rw [kindOf_csem]

/-- What is owed for the copies to start is owed to the receive semaphores on their targets. -/
theorem toSend_pos {c : Dev nD} {U : Finset (Fin 45)} {g : GSem nD τ sig} {u : Unit} (h : 0 < toSend c U g u) :
    ∃ k ∈ U, g = kcell (tgt k c, iR k) := by
  unfold toSend at h
  rw [Finset.sum_apply, Finsupp.finset_sum_apply] at h
  obtain ⟨k, hk, hp⟩ := Finset.exists_ne_zero_of_sum_ne_zero (Nat.pos_iff_ne_zero.mp h)
  refine ⟨k, hk, ?_⟩
  rw [tallyAt_apply] at hp
  by_contra hn
  exact hp (if_neg fun h' => hn h'.1)

/-- What is owed to a neighbour is owed to its barrier. -/
theorem toBar_pos {c : Dev nD} {a : Fin 4} {g : GSem nD τ sig} {u : Unit} (h : 0 < toBar c a g u) :
    g = kcell (nb a c, iB) := by
  unfold toBar at h
  rw [tallyAt_apply] at h
  by_contra hn
  rw [if_neg fun h' => hn h'.1] at h
  exact Nat.lt_irrefl 0 h

/-- All that is owed at the start is owed to receive semaphores and to barriers. -/
theorem O₀_pos {c : Dev nD} {g : GSem nD τ sig} {u : Unit} (h : 0 < O₀ c g u) :
    (∃ k, g = kcell (tgt k c, iR k)) ∨ ∃ a, g = kcell (nb a c, iB) := by
  unfold O₀ at h
  simp only [Pi.add_apply, Finsupp.add_apply] at h
  by_contra hn
  rw [not_or] at hn
  have h0 : toSend c Finset.univ g u = 0 := Nat.eq_zero_of_not_pos fun h' => hn.1 (let ⟨k, _, e⟩ := toSend_pos h'; ⟨k, e⟩)
  have ha (a : Fin 4) : toBar c a g u = 0 := Nat.eq_zero_of_not_pos fun h' => hn.2 ⟨a, toBar_pos h'⟩
  rw [h0, ha, ha, ha, ha] at h
  exact Nat.lt_irrefl 0 h

/-- A wait whose level lies below all that is owed to the copies still to start. -/
theorem mayWait_send (c : Dev nD) (sm : SemLoc sig) (U : Finset (Fin 45)) (n : ℕ) (hl : lv ((c : Thread nD τ), sm) () ≤ n)
    (hU : ∀ k ∈ U, n < k.val + 2) : (levAts L lv : sProp 𝕄) ⊢ MayWait (c : Thread nD τ) sm () (toSend c U) :=
  MayOwe.of_cut (L := L) (lev := lv) n (fun p hp => by rw [Finset.mem_singleton.mp hp, L_tc]; exact Finset.mem_singleton_self _)
    (fun g u hg => by obtain ⟨k, -, rfl⟩ := toSend_pos hg; rw [L_tc]; exact Finset.mem_singleton_self _)
    (fun p hp => by rw [Finset.mem_singleton.mp hp]; exact hl)
    (fun g u hg => by obtain ⟨k, hk, rfl⟩ := toSend_pos hg; rw [lv_recv]; exact hU k hk)

/-- The staging waits, at the lowest level. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, rfl⟩ | ⟨a, rfl⟩ <;> rw [L_tc] <;> exact Finset.mem_singleton_self _)
      (fun p hp => by rw [Finset.mem_singleton.mp hp]; exact hq.le)
      (fun g u hg => by
        rcases O₀_pos hg with ⟨k, rfl⟩ | ⟨a, rfl⟩
        · rw [lv_recv]; omega
        · rw [lv_bar]; omega)
  · rw [MayWait_zero]; iintro -; iempintro

end Cert.KernelIdeal.Gather
-- ==== Proof.Steps.lean ====
/-
# The copies, one action at a time

`St` records which copies are still to start, in flight, gone, awaited, arrived, and which pieces of data are at hand
to be read. `inv` says what device `c` holds then. Each action takes `inv` of a state to `inv` of the next, where the
state allows it (`step_act`). The program's list of actions is allowed throughout
(`acts_ok`), so the list runs from the first state to the last (`run_acts`).
-/
module

public import proofs.«01_k».proof.Proof.Proto

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loops, so no variants. -/
abbrev 𝒱₀ : Variants := Variants.none

variable (m : (ℓ : Loc nD τ sig) → Buf (Elt F) ℓ) (K : Dev nD × CI → ℕ) (c : Dev nD)

/-! ## Big separating conjunctions, one member at a time -/

section Members

omit [FloatOps F] in
/-- A member taken out of a conjunction. -/
theorem take_one {ι : Type} [DecidableEq ι] {S : Finset ι} {i : ι} {Φ : ι → sProp 𝕄} (h : i ∈ S) : bigSep S Φ = iprop(Φ i ∗ bigSep (S.erase i) Φ) := bigSep_erase h
omit [FloatOps F] in
/-- A new member put into a conjunction. -/
theorem put_one {ι : Type} [DecidableEq ι] {S : Finset ι} {i : ι} {Φ : ι → sProp 𝕄} (h : i ∉ S) : bigSep (insert i S) Φ = iprop(Φ i ∗ bigSep S Φ) := bigSep_insert h
omit [FloatOps F] in
/-- A disjoint set of members put into a conjunction. -/
theorem put_all {ι : Type} [DecidableEq ι] {S T : Finset ι} {Φ : ι → sProp 𝕄} (h : Disjoint S T) : bigSep (S ∪ T) Φ = iprop(bigSep S Φ ∗ bigSep T Φ) := bigSep_union h

end Members

/-! ## What all devices know -/

/-- The cells' invariants, and that each has reached its round. -/
def recs : sProp 𝕄 :=
  iprop((bigSep Finset.univ fun x : Dev nD × CI => cellInv ER (Rd m) (K x) (kcell x))
    ∗ bigSep Finset.univ fun x : Dev nD × CI => reached ER (kcell x) 0)

/-- What all devices know can be used any number of times. -/
instance recs_persistent : BI.Persistent (recs (F := F) m K) := by unfold recs; infer_instance

/-- Each cell's invariant is among what all devices know. -/
theorem recs_inv (x : Dev nD × CI) : recs (F := F) m K ⊢ cellInv ER (Rd m) (K x) (kcell x) := by
  unfold recs
  iintro ⟨H, -⟩
  iapply (show (bigSep Finset.univ fun x : Dev nD × CI => (cellInv ER (Rd m) (K x) (kcell x) : sProp 𝕄)) ⊢ cellInv ER (Rd m) (K x) (kcell x) from
    bigSep_elim (Finset.mem_univ x)); iexact H

/-- Each cell is known to have reached its round. -/
theorem recs_reached (x : Dev nD × CI) : recs (F := F) m K ⊢ reached ER (kcell x) 0 := by
  unfold recs
  iintro ⟨-, H⟩
  iapply (show (bigSep Finset.univ fun x : Dev nD × CI => (reached ER (kcell x) 0 : sProp 𝕄)) ⊢ reached ER (kcell x) 0 from
    bigSep_elim (Finset.mem_univ x)); iexact H

/-- The cells' records and the levels. -/
def ctx : sProp 𝕄 := iprop(recs m K ∗ levAts L lv)

/-- The records and the levels can be used any number of times. -/
instance ctx_persistent : BI.Persistent (ctx (F := F) m K) := by unfold ctx; infer_instance

/-! ## Windows as regions -/

/-- What a copy out of the input reads is the input's window at its share. -/
theorem piece_x (k : Fin 45) (hk : fromX k = true) : piece m c k
    = ((xM (part k)).view.loc (c : Thread nD τ) ↦[(xM (part k)).view.set]{Transfers.dealOf fullShare.right (rx (part k)) k} xs m c : sProp 𝕄) := by
  unfold piece; rw [if_pos hk, xM_set]; rfl

/-- What a forwarding copy reads is the output's window at its share. -/
theorem piece_o (k : Fin 45) (hk : fromX k = false) : piece m c k
    = ((dM k c).view.loc (c : Thread nD τ) ↦[(dM k c).view.set]{Transfers.dealOf fullShare (insert (src k) (rd (src k))) k} gat m : sProp 𝕄) := by
  unfold piece; rw [if_neg (by rw [hk]; exact Bool.false_ne_true), dM_set]; rfl

omit [FloatOps F] in
/-- The room of a copy is its window on the target's output. -/
theorem room_eq (k : Fin 45) : room (F := F) c k
    = (iprop(∃ f, (dM k c).view.loc (tgt k c : Thread nD τ) ↦[(dM k c).view.set]{fullShare} f) : sProp 𝕄) := by
  unfold room; rw [dM_set]; rfl

/-- What copy `k` writes on its target is what the target is to hold there. -/
theorem landed_tgt (k : Fin 45) : landed m (tgt k c) k
    = ((dM k c).view.loc (tgt k c : Thread nD τ) ↦[(dM k c).view.set]{fullShare} gat m : sProp 𝕄) := by
  unfold landed lb; rw [frm_tgt, dM_set]; rfl

/-- A landed region is the copies' pieces of it and the kept share. -/
theorem landed_split (j : Fin 45) : (landed m c j : sProp 𝕄) = iprop(keep m c j ∗ bigSep (rd j) fun k => piece m c k) := by
  have hj : j ∉ rd j := fun h => by
    have := (Finset.mem_filter.mp h).2
    exact src_ne j this.1 this.2
  unfold landed
  rw [Transfers.pointsTo_deal (insert j (rd j)) ⟨j, Finset.mem_insert_self _ _⟩, put_one hj]
  unfold keep
  refine congrArg _ (bigSep_congr fun k hk => ?_)
  obtain ⟨h1, rfl⟩ := (Finset.mem_filter.mp hk).2
  unfold piece
  rw [if_neg (by rw [h1]; exact Bool.false_ne_true), src_blk k c h1, src_part k h1]

/-! ## The states -/

/-- The copies still to start, in flight, gone, awaited and arrived, and the pieces at hand. -/
structure St where
  (U F D P R A : Finset (Fin 45))

/-- Copy `k` before its start. -/
def unst (k : Fin 45) : sProp 𝕄 :=
  iprop(dutyTok ER (kcell (c, iS k)) 0 0 ∗ dutyTok ER (kcell (tgt k c, iR k)) 0 0 ∗ atPos ER (kcell (c, iS k)) 0 ∅ 0 ∗ room c k)
/-- Copy `k` in flight. -/
def flight (k : Fin 45) : sProp 𝕄 := iprop(cred (tallyAt (kcell (c, iS k)) () (N k)) ∗ atPos ER (kcell (c, iS k)) 0 ∅ 0)
/-- Copy `k` gone. -/
def gone (k : Fin 45) : sProp 𝕄 := semVal (kcell (c, iS k)) 0
/-- Copy `k` awaited. -/
def pend (k : Fin 45) : sProp 𝕄 := iprop(cred (tallyAt (kcell (c, iR k)) () (N k)) ∗ atPos ER (kcell (c, iR k)) 0 ∅ 0)
/-- Copy `k` arrived. -/
def come (k : Fin 45) : sProp 𝕄 := iprop(semVal (kcell (c, iR k)) 0 ∗ keep m c k)

/-- What device `c` holds in state `s`. -/
def inv (s : St) : sProp 𝕄 :=
  iprop((bigSep s.U fun k => unst c k) ∗ (bigSep s.F fun k => flight c k) ∗ (bigSep s.D fun k => gone c k)
    ∗ (bigSep s.P fun k => pend c k) ∗ (bigSep s.R fun k => come m c k) ∗ (bigSep s.A fun k => piece m c k)
    ∗ ∃ W, owes (c : Thread nD τ) (toSend c s.U) W)

/-- When an action is allowed. -/
def Act.can (s : St) : Act → Prop
  | .start k => k ∈ s.U ∧ k ∉ s.F ∧ k ∈ s.A
  | .recv k => k ∈ s.P ∧ k ∉ s.R ∧ (∀ j ∈ s.U, k < j) ∧ Disjoint s.A (rd k)
  | .send k => s.U = ∅ ∧ k ∈ s.F ∧ k ∉ s.D ∧ k ∉ s.A

/-- Whether an action is allowed can be computed. -/
instance (s : St) : (a : Act) → Decidable (a.can s)
  | .start k => inferInstanceAs (Decidable (k ∈ s.U ∧ k ∉ s.F ∧ k ∈ s.A))
  | .recv k => inferInstanceAs (Decidable (k ∈ s.P ∧ k ∉ s.R ∧ (∀ j ∈ s.U, k < j) ∧ Disjoint s.A (rd k)))
  | .send k => inferInstanceAs (Decidable (s.U = ∅ ∧ k ∈ s.F ∧ k ∉ s.D ∧ k ∉ s.A))

/-- The state an action leads to. -/
def Act.next (s : St) : Act → St
  | .start k => { s with U := s.U.erase k, F := insert k s.F, A := s.A.erase k }
  | .recv k => { s with P := s.P.erase k, R := insert k s.R, A := s.A ∪ rd k }
  | .send k => { s with F := s.F.erase k, D := insert k s.D, A := insert k s.A }

/-! ## The steps -/

/-- What is owed for the copies to start is what is owed without copy `k`, and copy `k`'s credit. -/
theorem toSend_erase (U : Finset (Fin 45)) (k : Fin 45) (hk : k ∈ U) :
    toSend c U = toSend c (U.erase k) + tallyAt (kcell (tgt k c, iR k)) () (N k) :=
  (Finset.sum_erase_add U _ hk).symm

/-- Starting copy `k` out of a window that holds the gathered array: its piece and its room go, the right to await its
    departure comes. -/
theorem start_from (k : Fin 45) {sp : Space} (sM : Memref sig .tc sp (shp (part k)) .f32) {q : PosShare TreeShare}
    (fs : Buf (Elt F) (sM.view.loc (c : Thread nD τ)))
    (hp : piece m c k = (sM.view.loc (c : Thread nD τ) ↦[sM.view.set]{q} fs : sProp 𝕄))
    (hw : ∀ f : S16384x512.Idx → F .f32, ∀ i ∈ (dM k c).view.set,
      (dM k c).view.write (Elt F) f (sM.view.read (Elt F) fs) Finset.univ i = gat m i)
    {hsrc : sM.view.WordExact} {hdst : (dM k c).view.WordExact} {hsc : (dM k c).view.ref.isScScratch = false}
    {hsem : DmaTarget.Typed sp (.dma (rs k)) (.remote (Dev.tc (tgt k c) : Thread nD τ) (dM k c) (.dma (ss k)) hsc)}
    (O : CellTallies nD τ sig Unit) (W : Waits sig Unit)
    {α : Type} {Q : α → sProp 𝕄} {n : PUnit → Prog (TpuEff nD τ sig (Elt F) Λ₀ .tc) α} :
    iprop(recs m K ∗ unst c k ∗ piece m c k ∗ owes (c : Thread nD τ) (O + tallyAt (kcell (tgt k c, iR k)) () (N k)) W)
      ⊢ iprop(((flight c k ∗ owes (c : Thread nD τ) O W) -∗ wp frame (wpE (defs₀ (F := F)) 𝒱₀ (c : Thread nD τ) none) Set.univ (n ⟨⟩) Q)
        -∗ wp frame (wpE (defs₀ (F := F)) 𝒱₀ (c : Thread nD τ) none) Set.univ
          (.op (.enqueueDma sM (.remote (Dev.tc (tgt k c) : Thread nD τ) (dM k c) (.dma (ss k)) hsc) (.dma (rs k)) hsrc hdst hsem) n) Q) := by
  unfold unst flight
  rw [room_eq, hp]
  iintro ⟨#Hr, ⟨Ht1, Ht2, Hat, ⟨%f, Hroom⟩⟩, Hp, HO⟩ Hk
  iapply (Rounds.wp_send_pointsTo 𝒱₀ ER (Rd m) (c : Thread nD τ) none (κ₁ := K (c, iS k)) (κ₂ := K (tgt k c, iR k))
      (r₁ := 0) (r₂ := 0) (d₁ := 0) (d₂ := 0) (fd := f)
      ((duties_eq m c (iS k)).symm ▸ Finset.mem_singleton_self _) ((duties_eq m (tgt k c) (iR k)).symm ▸ Finset.mem_singleton_self _)
      () () (N k) rfl (amount_eq m c (iS k) 0) (amount_eq m (tgt k c) (iR k) 0) O rfl (W := W)
      (Entails.of_eq (hp.symm.trans (payload_eq m c (iS k) 0).symm))
      (Entails.of_eq ((pointsTo_congr fun i hi => hw f i hi).trans
        ((landed_tgt m c k).symm.trans (payload_eq m (tgt k c) (iR k) 0).symm)))) $$ [Ht1 Ht2 Hroom Hp HO]
  · isplitr; · iapply (recs_inv m K (c, iS k)); iexact Hr
    isplitr; · iapply (recs_inv m K (tgt k c, iR k)); iexact Hr
    isplitl [Hp]; · iexact Hp
    isplitl [Hroom]; · iexact Hroom
    isplitl [HO]; · iexact HO
    isplitl [Ht1]; · iexact Ht1
    isplitr; · iapply (recs_reached m K (c, iS k)); iexact Hr
    isplitl [Ht2]; · iexact Ht2
    iapply (recs_reached m K (tgt k c, iR k)); iexact Hr
  iintro ⟨Hc, HO⟩
  iapply Hk
  isplitr [HO]
  · isplitl [Hc]; · iexact Hc
    iexact Hat
  iexact HO

/-- Starting a copy. -/
theorem start_one (k : Fin 45) (O : CellTallies nD τ sig Unit) (W : Waits sig Unit)
    {α : Type} {Q : α → sProp 𝕄} {n : PUnit → Prog (TpuEff nD τ sig (Elt F) Λ₀ .tc) α} :
    iprop(recs m K ∗ unst c k ∗ piece m c k ∗ owes (c : Thread nD τ) (O + tallyAt (kcell (tgt k c, iR k)) () (N k)) W)
      ⊢ iprop(((flight c k ∗ owes (c : Thread nD τ) O W) -∗ wp frame (wpE (defs₀ (F := F)) 𝒱₀ (c : Thread nD τ) none) Set.univ (n ⟨⟩) Q)
        -∗ wp frame (wpE (defs₀ (F := F)) 𝒱₀ (c : Thread nD τ) none) Set.univ (.op ((Act.start k).eff c) n) Q) := by
  cases hk : fromX k with
  | true =>
    simp only [Act.eff, hk]
    exact start_from m K c k (xM (part k)) (xs m c) (piece_x m c k hk) (fun f i hi => xM_write (xs m) k hk c f i hi) O W
  | false =>
    simp only [Act.eff, hk]
    exact start_from m K c k (dM k c) (gat m) (piece_o m c k hk) (fun f i hi => dM_write k c f (gat m) i hi) O W

/-- Awaiting one of the copies' semaphores, by whatever wait takes copy `k`'s credit from it: what it hands over comes,
    and it is closed at zero. -/
theorem await_one (i : OI) {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (osem i) (amtOf (.inr i)) G)
    (O : CellTallies nD τ sig Unit) (W : Waits sig Unit)
    {α : Type} {Q : α → sProp 𝕄} {n : PUnit → Prog (TpuEff nD τ sig (Elt F) Λ₀ .tc) α} :
    iprop(recs m K ∗ cred (tallyAt (kcell (c, .inr i)) () (amtOf (.inr i))) ∗ owes (c : Thread nD τ) O W
        ∗ MayWait (c : Thread nD τ) (osem i) () O ∗ atPos ER (kcell (c, .inr i)) 0 ∅ 0)
      ⊢ iprop(((semVal (kcell (c, .inr i)) 0 ∗ payOf m c (.inr i) 0 ∗ owes (c : Thread nD τ) O (insert (osem i, ()) W))
          -∗ wp frame (wpE (defs₀ (F := F)) 𝒱₀ (c : Thread nD τ) none) Set.univ (n ⟨⟩) Q)
        -∗ wp frame (wpE (defs₀ (F := F)) 𝒱₀ (c : Thread nD τ) none) Set.univ (.op w n) Q) := by
  iintro ⟨#Hr, Hc, HO, Hm, Hat⟩ Hk
  iapply (Rounds.wp_wait_rest_token 𝒱₀ ER (Rd m) (c : Thread nD τ) none (κ := K (c, .inr i)) hw (Set.mem_univ _) ()
      (O := O) (W := W) (R := 0) (m := 0) (T := ∅) (by rw [Nat.zero_add]; exact (expect_own m c i).symm)) $$ [Hc HO Hm Hat]
  · isplitr; · iapply (recs_inv m K (c, .inr i)); iexact Hr
    isplitl [Hc]; · iexact Hc
    isplitl [HO]; · iexact HO
    isplitl [Hm]; · iexact Hm
    iexact Hat
  iintro ⟨HO, Hat, -, Hpay⟩
  ihave Hp := (Entails.of_eq (rest_own m c i)) $$ Hpay
  imod (Rounds.cell_close ER (Rd m) (Set.mem_univ (K (c, .inr i))) (fun h => h) (R := 0 + 1) (duties_later m (kcell (c, .inr i)))) $$ [Hat] with Hz
  · isplitr; · iapply (recs_inv m K (c, .inr i)); iexact Hr
    iexact Hat
  iapply Hk
  isplitl [Hz]; · iexact Hz
  isplitl [Hp]; · iexact Hp
  iexact HO

/-- The wait for a copy's arrival takes its credit. -/
theorem recv_wait (k : Fin 45) (G : PUnit → sProp 𝕄) :
    wpE (defs₀ (F := F)) 𝒱₀ (c : Thread nD τ) none Set.univ ((Act.recv k).eff c) G
      = waitSpec (c : Thread nD τ) Set.univ (.dma (rs k)) (N k) G := by
  cases hk : fromX k <;> simp only [Act.eff, hk] <;> exact wpE_waitDma2_eq 𝒱₀ (c : Thread nD τ) none Set.univ G

/-- The wait for a copy's departure takes its credit. -/
theorem send_wait (k : Fin 45) (G : PUnit → sProp 𝕄) :
    wpE (defs₀ (F := F)) 𝒱₀ (c : Thread nD τ) none Set.univ ((Act.send k).eff c) G
      = waitSpec (c : Thread nD τ) Set.univ (.dma (ss k)) (N k) G := by
  cases hk : fromX k <;> simp only [Act.eff, hk] <;> exact wpE_waitDma2_eq 𝒱₀ (c : Thread nD τ) none Set.univ G

/-- The weakest precondition on device `c`'s core. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-- An allowed action takes the state to the next. -/
theorem step_act (s : St) (a : Act) (ha : a.can s)
    {α : Type} {Q : α → sProp 𝕄} {n : PUnit → Prog (TpuEff nD τ sig (Elt F) Λ₀ .tc) α} :
    iprop(ctx m K ∗ inv m c s) ⊢ iprop((inv m c (a.next s) -∗ wpc c (n ⟨⟩) Q) -∗ wpc c (.op (a.eff c) n) Q) := by
  unfold ctx inv
  iintro ⟨⟨#Hr, #Hl⟩, HU, HF, HD, HP, HR, HA, ⟨%W, HO⟩⟩ Hk
  cases a with
  | start k =>
    obtain ⟨h1, h2, h3⟩ := ha
    ihave HU := (Entails.of_eq (take_one (Φ := fun k => (unst c k : sProp 𝕄)) h1)) $$ HU
    ihave HA := (Entails.of_eq (take_one (Φ := fun k => (piece m c k : sProp 𝕄)) h3)) $$ HA
    icases HU with ⟨Hu, HU⟩
    icases HA with ⟨Ha, HA⟩
    rw [toSend_erase c s.U k h1]
    iapply (start_one m K c k (toSend c (s.U.erase k)) W) $$ [Hu Ha HO]
    · isplitr; · iexact Hr
      isplitl [Hu]; · iexact Hu
      isplitl [Ha]; · iexact Ha
      iexact HO
    iintro ⟨Hf, HO⟩
    iapply Hk
    simp only [Act.next]
    rw [put_one h2]
    isplitl [HU]; · iexact HU
    isplitl [Hf HF]; · (isplitl [Hf] <;> iassumption)
    isplitl [HD]; · iexact HD
    isplitl [HP]; · iexact HP
    isplitl [HR]; · iexact HR
    isplitl [HA]; · iexact HA
    iexists W; iexact HO
  | recv k =>
    obtain ⟨h1, h2, h3, h4⟩ := ha
    ihave HP := (Entails.of_eq (take_one (Φ := fun k => (pend c k : sProp 𝕄)) h1)) $$ HP
    icases HP with ⟨Hp, HP⟩
    unfold pend
    icases Hp with ⟨Hc, Hat⟩
    iapply (await_one m K c (.inr (.inl k)) (recv_wait c k) (toSend c s.U) W) $$ [Hc Hat HO]
    · isplitr; · iexact Hr
      isplitl [Hc]; · iexact Hc
      isplitl [HO]; · iexact HO
      isplitr
      · iapply (mayWait_send c (.dma (rs k)) s.U (k.val + 2) (lv_recv c k).le (fun j hj => by have : k.val < j.val := h3 j hj; omega)); iexact Hl
      iexact Hat
    iintro ⟨Hz, Hp, HO⟩
    ihave Hp := (Entails.of_eq (show payOf m c (iR k) 0 = _ from landed_split m c k)) $$ Hp
    icases Hp with ⟨Hkp, Hpc⟩
    iapply Hk
    simp only [Act.next]
    rw [put_one h2, put_all h4]
    isplitl [HU]; · iexact HU
    isplitl [HF]; · iexact HF
    isplitl [HD]; · iexact HD
    isplitl [HP]; · iexact HP
    isplitl [Hz Hkp HR]
    · isplitl [Hz Hkp]
      · unfold come; isplitl [Hz] <;> iassumption
      iexact HR
    isplitl [HA Hpc]; · (isplitl [HA] <;> iassumption)
    iexists _; iexact HO
  | send k =>
    obtain ⟨h1, h2, h3, h4⟩ := ha
    ihave HF := (Entails.of_eq (take_one (Φ := fun k => (flight c k : sProp 𝕄)) h2)) $$ HF
    icases HF with ⟨Hf, HF⟩
    unfold flight
    icases Hf with ⟨Hc, Hat⟩
    iapply (await_one m K c (.inl k) (send_wait c k) (toSend c s.U) W) $$ [Hc Hat HO]
    · isplitr; · iexact Hr
      isplitl [Hc]; · iexact Hc
      isplitl [HO]; · iexact HO
      isplitr
      · rw [h1]; unfold toSend; rw [Finset.sum_empty, MayWait_zero]; iempintro
      iexact Hat
    iintro ⟨Hz, Hp, HO⟩
    iapply Hk
    simp only [Act.next]
    rw [put_one h3, put_one h4]
    isplitl [HU]; · iexact HU
    isplitl [HF]; · iexact HF
    isplitl [Hz HD]
    · isplitl [Hz]; · unfold gone; iexact Hz
      iexact HD
    isplitl [HP]; · iexact HP
    isplitl [HR]; · iexact HR
    isplitl [Hp HA]
    · isplitl [Hp]; · iapply (Entails.of_eq (show payOf m c (iS k) 0 = piece m c k from rfl)); iexact Hp
      iexact HA
    iexists _; iexact HO

/-! ## The list of actions -/

/-- Every action of a list is allowed in turn. -/
def okay : List Act → St → Bool
  | [], _ => true
  | a :: l, s => decide (a.can s) && okay l (a.next s)

/-- The state a list leads to. -/
def after (l : List Act) (s : St) : St := l.foldl (fun s a => a.next s) s

/-- An allowed list runs. -/
theorem run_list (t : Prog (TpuEff nD τ sig (Elt F) Λ₀ .tc) PUnit) {Q : PUnit → sProp 𝕄} : ∀ (l : List Act) (s : St), okay l s = true →
    iprop(ctx m K ∗ inv m c s) ⊢ iprop((inv m c (after l s) -∗ wpc c t Q) -∗ wpc c (run c t l) Q)
  | [], s, _ => by
    iintro ⟨-, Hi⟩ Hk
    iapply Hk; iexact Hi
  | a :: l, s, h => by
    have h' := Bool.and_eq_true_iff.mp h
    iintro ⟨#Hx, Hi⟩ Hk
    iapply (step_act m K c (n := fun _ => run c t l) s a (of_decide_eq_true h'.1)) $$ [Hi]
    · isplitr; · iexact Hx
      iexact Hi
    iintro Hi
    iapply (run_list t l (a.next s) h'.2) $$ [Hi]
    · isplitr; · iexact Hx
      iexact Hi
    iexact Hk

/-- The first state: nothing started, the staged input at hand. -/
def st₀ : St := ⟨Finset.univ, ∅, ∅, Finset.univ, ∅, Finset.univ.filter fun k => fromX k = true⟩

/-- The last: all gone, all arrived, all the pieces back. -/
def st₁ : St := ⟨∅, ∅, Finset.univ, ∅, Finset.univ, Finset.univ⟩

set_option maxRecDepth 65536 in
/-- The program's actions are allowed in turn. -/
theorem acts_ok : okay acts st₀ = true := by decide +kernel

/-- Two states are one where the six sets agree. -/
theorem St.same {s t : St} (h : s.U = t.U ∧ s.F = t.F ∧ s.D = t.D ∧ s.P = t.P ∧ s.R = t.R ∧ s.A = t.A) : s = t := by
  cases s; cases t; simp only [St.mk.injEq]; exact h

set_option maxRecDepth 65536 in
/-- They lead to the last state. -/
theorem acts_after : after acts st₀ = st₁ := St.same (by decide +kernel)

/-- The program's actions, from the first state to the last. -/
theorem run_acts (t : Prog (TpuEff nD τ sig (Elt F) Λ₀ .tc) PUnit) {Q : PUnit → sProp 𝕄} :
    iprop(ctx m K ∗ inv m c st₀) ⊢ iprop((inv m c st₁ -∗ wpc c t Q) -∗ wpc c (run c t acts) Q) :=
  acts_after ▸ run_list m K c t acts st₀ acts_ok

end Cert.KernelIdeal.Gather
-- ==== Proof.Body.lean ====
/-
# The body

What a device holds at the start (`Φ₀`) and at the end (`Φ₁`), how its output and its staged input divide into the
pieces the copies move and read, and the body from the one to the other (`body_runs`).
-/
module

public import proofs.«01_k».proof.Proof.Steps
public import proofs.«01_k».proof.Proof.Gen.KernelIdeal.Frame

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Regrouping -/

omit [FloatOps F] in
/-- Two families in either order. -/
theorem swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]; rfl

omit [FloatOps F] in
/-- A family over the copies, grouped by what a function says of each. -/
theorem by_class {β : Type} [Fintype β] [DecidableEq β] (f : Fin 45 → β) (Φ : Fin 45 → sProp 𝕄) :
    (bigSep Finset.univ fun b => bigSep (Finset.univ.filter fun k => f k = b) Φ) = bigSep Finset.univ Φ := by
  rw [bigSep_congr fun b _ => bigSep_filter Finset.univ (fun k => f k = b) Φ, swap]
  refine bigSep_congr fun k _ => ?_
  rw [← bigSep_filter Finset.univ (fun b => f k = b) (fun _ => Φ k), Finset.filter_eq, if_pos (Finset.mem_univ _), bigSep_singleton]

omit [FloatOps F] in
/-- A conjunction over a sum of two types is the conjunction over each. -/
theorem both {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

omit [FloatOps F] in
/-- A conjunction over the four sides, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The output and the staged input in pieces -/

omit [FloatOps F] in
/-- The output is the own block and the landing regions. -/
theorem out_split (f : S16384x512.Idx → F .f32) : (oloc c ↦{fullShare} f : sProp 𝕄)
    = iprop((oloc c ↦[own c]{fullShare} f) ∗ bigSep Finset.univ fun k : Fin 45 => oloc c ↦[reg (lb k c) (part k)]{fullShare} f) := by
  have hd : Disjoint (own c) (Finset.univ.biUnion fun k : Fin 45 => reg (lb k c) (part k)) :=
    (Finset.disjoint_biUnion_right _ _ _).mpr fun k _ => own_disj c k
  refine (show (oloc c ↦{fullShare} f : sProp 𝕄) = (oloc c ↦[own c ∪ Finset.univ.biUnion fun k : Fin 45 => reg (lb k c) (part k)]{fullShare} f)
    from by rw [cover]).trans ?_
  rw [BI.Entails.antisymm (pointsTo_union hd).1 (pointsTo_union hd).2, pointsTo_biUnion]
  intro k _ k' _ h
  exact reg_disj c k k' h

/-- Every part of the staged input is read by some copy. -/
theorem rx_ne : ∀ p : Fin 3, (rx p).Nonempty := by decide +kernel

/-- A share of the staged input is its readers' pieces. -/
theorem in_split : (xloc c ↦{fullShare.right} xs m c : sProp 𝕄) = bigSep (Finset.univ.filter fun k => fromX k = true) fun k => piece m c k := by
  refine (show (xloc c ↦{fullShare.right} xs m c : sProp 𝕄) = (xloc c ↦[Finset.univ.biUnion xreg]{fullShare.right} xs m c) from by rw [xcover]).trans ?_
  rw [pointsTo_biUnion _ _ (fun p _ p' _ h => xreg_disj p p' h), bigSep_filter, ← by_class part]
  refine bigSep_congr fun p _ => ?_
  rw [Transfers.pointsTo_deal (rx p) (rx_ne p), ← bigSep_filter, Finset.filter_filter]
  have he : (Finset.univ.filter fun k => part k = p ∧ fromX k = true) = rx p := Finset.filter_congr fun k _ => and_comm
  rw [he]
  refine bigSep_congr fun k hk => ?_
  obtain ⟨h1, rfl⟩ := (Finset.mem_filter.mp hk).2
  unfold piece; rw [if_pos h1]

/-- All the pieces and the kept shares are a share of the staged input and the landed regions. -/
theorem all_back : iprop((bigSep Finset.univ fun k => keep m c k) ∗ bigSep Finset.univ fun k => piece m c k)
    ⊢ (iprop((xloc c ↦{fullShare.right} xs m c) ∗ bigSep Finset.univ fun k => landed m c k) : sProp 𝕄) := by
  have h2 : (bigSep (Finset.univ.filter fun k => ¬ fromX k = true) fun k => piece m c k)
      = bigSep Finset.univ fun j => bigSep (rd j) fun k => piece m c k := by
    rw [bigSep_filter, ← by_class src]
    refine bigSep_congr fun j _ => ?_
    rw [← bigSep_filter, Finset.filter_filter]
    exact congrArg (fun S => bigSep S fun k => piece m c k)
      (Finset.filter_congr fun k _ => by rw [Bool.not_eq_true]; exact and_comm)
  rw [bigSep_congr (s := Finset.univ) fun j _ => landed_split m c j, bigSep_sep', ← h2, in_split]
  iintro ⟨Hk, Hp⟩
  ihave Hp := (Entails.of_eq (show (bigSep Finset.univ fun k => piece m c k) = iprop((bigSep (Finset.univ.filter fun k => fromX k = true) fun k => piece m c k)
      ∗ bigSep (Finset.univ.filter fun k => ¬ fromX k = true) fun k => piece m c k) from bigSep_filter_split _ _)) $$ Hp
  icases Hp with ⟨H1, H2⟩
  isplitl [H1]; · iexact H1
  isplitl [Hk]; · iexact Hk
  iexact H2

/-! ## What a device signals with -/

/-- A landing region of device `c`, with any contents. -/
def spot (k : Fin 45) : sProp 𝕄 := iprop(∃ f, oloc c ↦[reg (lb k c) (part k)]{fullShare} f)

omit [FloatOps F] in
/-- The neighbour on side `a` gets the landing regions its copies write. -/
theorem hand_over (a : Fin 4) : (bigSep (side (opp a)) fun k => spot (F := F) c k) = barPay (nb a c) (opp a) := by
  unfold barPay
  refine bigSep_congr fun k hk => ?_
  have hd : dir k = opp a := (Finset.mem_filter.mp hk).2
  have ht : tgt k (nb a c) = c := by rw [tgt_eq, hd]; exact nb_opp_nb a c
  have hb : lb k c = blk k (nb a c) := by unfold lb frm; rw [hd, opp_opp]
  unfold spot room
  rw [ht, hb]

omit [FloatOps F] in
/-- A region holding given contents is a region holding some contents. -/
theorem spot_intro (k : Fin 45) (f : S16384x512.Idx → F .f32) : (oloc c ↦[reg (lb k c) (part k)]{fullShare} f : sProp 𝕄) ⊢ spot c k := by
  unfold spot; iintro H; iexists f; iexact H

/-- The first signal goes to the left neighbour. -/
theorem left_eq : ∀ c : Dev nD, (⟨k0_dev1 c, k0_dev1_lt c⟩ : Dev nD) = nb 1 c := by decide +kernel
/-- The second signal goes to the right neighbour. -/
theorem right_eq : ∀ c : Dev nD, (⟨k0_dev2 c, k0_dev2_lt c⟩ : Dev nD) = nb 0 c := by decide +kernel
/-- The third signal goes to the upper neighbour. -/
theorem up_eq : ∀ c : Dev nD, (⟨k0_dev3 c, k0_dev3_lt c⟩ : Dev nD) = nb 2 c := by decide +kernel
/-- The fourth signal goes to the lower neighbour. -/
theorem down_eq : ∀ c : Dev nD, (⟨k0_dev4 c, k0_dev4_lt c⟩ : Dev nD) = nb 3 c := by decide +kernel

/-! ## The body's two ends -/

/-- The tokens and positions a device starts with. -/
def ghost : sProp 𝕄 :=
  iprop(recs m K ∗ atPos ER (kcell (c, iB)) 0 ∅ 0 ∗ atPos ER (kcell (c, iO)) 0 ∅ 0 ∗ dutyTok ER (kcell (c, iO)) 0 0
    ∗ (bigSep Finset.univ fun a => dutyTok ER (kcell (nb a c, iB)) 0 (opp a))
    ∗ (bigSep Finset.univ fun k => atPos ER (kcell (c, iS k)) 0 ∅ 0) ∗ (bigSep Finset.univ fun k => atPos ER (kcell (c, iR k)) 0 ∅ 0)
    ∗ (bigSep Finset.univ fun k => dutyTok ER (kcell (c, iS k)) 0 0)
    ∗ bigSep Finset.univ fun k => dutyTok ER (kcell (tgt k c, iR k)) 0 0)

/-- With the credit of what is owed to it, and the levels. -/
def start : sProp 𝕄 :=
  iprop((∃ K, ghost m K c) ∗ cred (tallyAt (kcell (c, iB)) () 4)
    ∗ (bigSep Finset.univ fun k => cred (tallyAt (kcell (c, iR k)) () (N k))) ∗ levAts L lv)

/-- Before the body: the output with any contents. -/
def Φ₀ : sProp 𝕄 := iprop(start m c ∗ ∃ f : S16384x512.Idx → F .f32, oloc c ↦{fullShare} f)

/-- After it: the output gathered, every semaphore at zero. -/
def Φ₁ : sProp 𝕄 := iprop((oloc c ↦{fullShare} gat m) ∗ bigSep Finset.univ fun i : CI => semVal (kcell (c, i)) 0)

/-! ## The operations around the copies -/

/-- One signal: the unit owed to the neighbour on side `a` is paid, with the landing regions it writes. -/
theorem signal_one (a : Fin 4) (d : Dev nD) (hd : d = nb a c) (O : CellTallies nD τ sig Unit) (W : Waits sig Unit)
    {n : PUnit → Prog (TpuEff nD τ sig (Elt F) Λ₀ .tc) PUnit} {Q : PUnit → sProp 𝕄} :
    iprop(recs m K ∗ owes (c : Thread nD τ) (O + toBar c a) W ∗ dutyTok ER (kcell (nb a c, iB)) 0 (opp a)
        ∗ bigSep (side (opp a)) fun k => spot c k)
      ⊢ iprop((owes (c : Thread nD τ) O W -∗ wpc c (n ⟨⟩) Q)
        -∗ wpc c (.op (.semSignal (d, .tc) barR (1#32).toInt) n) Q) := by
  subst hd
  iintro ⟨#Hr, HO, Ht, Hs⟩ Hk
  iapply (Rounds.wp_signal 𝒱₀ ER (Rd m) (c : Thread nD τ) none (dst := (nb a c : Thread nD τ)) (κ := K (nb a c, iB)) (d := opp a)
      ((duties_eq m (nb a c) iB).symm ▸ Finset.mem_univ _) ((amount_eq m (nb a c) iB (opp a)).trans (by decide)) () O rfl) $$ [HO Ht Hs]
  · isplitr; · iapply (recs_inv m K (nb a c, iB)); iexact Hr
    isplitl [HO]; · iexact HO
    isplitl [Ht]; · iexact Ht
    isplitl [Hs]
    · iapply (Entails.of_eq ((hand_over c a).trans (payload_eq m (nb a c) iB (opp a)).symm)); iexact Hs
    iapply (recs_reached m K (nb a c, iB)); iexact Hr
  iexact Hk

/-- The barrier: the four neighbours' rooms come. -/
theorem barrier_wait (W : Waits sig Unit) {n : PUnit → Prog (TpuEff nD τ sig (Elt F) Λ₀ .tc) PUnit} {Q : PUnit → sProp 𝕄} :
    iprop(ctx m K ∗ cred (tallyAt (kcell (c, iB)) () 4) ∗ owes (c : Thread nD τ) (toSend c Finset.univ) W ∗ atPos ER (kcell (c, iB)) 0 ∅ 0)
      ⊢ iprop(((semVal (kcell (c, iB)) 0 ∗ (bigSep Finset.univ fun k => room c k)
          ∗ ∃ W, owes (c : Thread nD τ) (toSend c Finset.univ) W) -∗ wpc c (n ⟨⟩) Q)
        -∗ wpc c (.op (.semWait barR (4#32).toInt) n) Q) := by
  unfold ctx
  iintro ⟨⟨#Hr, #Hl⟩, Hc, HO, Hat⟩ Hk
  iapply (Rounds.wp_wait_rest_token 𝒱₀ ER (Rd m) (c : Thread nD τ) none (κ := K (c, iB))
      (wpE_semWait_eq 𝒱₀ (c : Thread nD τ) none Set.univ) (Set.mem_univ _) () (O := toSend c Finset.univ) (W := W) (R := 0) (m := 0) (T := ∅)
      ((show 0 + (4#32).toInt.toNat = 4 from by decide).trans (expect_bar m c).symm)) $$ [Hc HO Hat]
  · isplitr; · iapply (recs_inv m K (c, iB)); iexact Hr
    isplitl [Hc]; · iexact Hc
    isplitl [HO]; · iexact HO
    isplitr
    · iapply (mayWait_send c (.reg barR) Finset.univ 1 (lv_bar c).le (fun k _ => by omega)); iexact Hl
    iexact Hat
  iintro ⟨HO, Hat, -, Hpay⟩
  ihave Hp := (Entails.of_eq ((rest_bar m c).trans (by_class dir fun k => room c k))) $$ Hpay
  imod (Rounds.cell_close ER (Rd m) (Set.mem_univ (K (c, iB))) (fun h => h) (R := 0 + 1) (duties_later m (kcell (c, iB)))) $$ [Hat] with Hz
  · isplitr; · iapply (recs_inv m K (c, iB)); iexact Hr
    iexact Hat
  iapply Hk
  isplitl [Hz]; · iexact Hz
  isplitl [Hp]; · iexact Hp
  iexists _; iexact HO

omit [FloatOps F] in
/-- The own block of the output is the local copy's destination window. -/
theorem own_win (f : S16384x512.Idx → F .f32) : (oloc c ↦[own c]{fullShare} f : sProp 𝕄)
    = ((oM c).view.loc (c : Thread nD τ) ↦[(oM c).view.set]{fullShare} f) := by rw [oM_set]; rfl

omit [FloatOps F] in
/-- A share of the staged input is the local copy's source window. -/
theorem in_win (f : S1024x512.Idx → F .f32) : (xloc c ↦{fullShare.left} f : sProp 𝕄)
    = ((Memref.whole cc0_stg0_0 : Memref sig .tc .vmem S1024x512 .f32).view.loc (c : Thread nD τ)
        ↦[(Memref.whole cc0_stg0_0 : Memref sig .tc .vmem S1024x512 .f32).view.set]{fullShare.left} f) := by
  rw [show (Memref.whole cc0_stg0_0 : Memref sig .tc .vmem S1024x512 .f32).view.set = Finset.univ from View.set_whole _]

/-- What the local copy leaves is what its semaphore hands over. -/
theorem own_done (f : S16384x512.Idx → F .f32) :
    iprop(((oM c).view.loc (c : Thread nD τ) ↦[(oM c).view.set]{fullShare}
          (oM c).view.write (Elt F) f ((Memref.whole cc0_stg0_0 : Memref sig .tc .vmem S1024x512 .f32).view.read (Elt F) (xs m c)) Finset.univ)
        ∗ ((Memref.whole cc0_stg0_0 : Memref sig .tc .vmem S1024x512 .f32).view.loc (c : Thread nD τ)
          ↦[(Memref.whole cc0_stg0_0 : Memref sig .tc .vmem S1024x512 .f32).view.set]{fullShare.left} xs m c))
      ⊢ (Rd (F := F) m).payload (kcell (c, iO)) 0 0 := by
  rw [payload_eq, pointsTo_congr fun i hi => oM_write (xs m) c f i hi, ← in_win]
  show _ ⊢ ownPay m c
  unfold ownPay
  rw [own_win]

omit [FloatOps F] in
/-- The local copy's credit is the same on every device. -/
theorem own_amount : (oM c).view.amount (.dma os) = NO := rfl

/-- The local copy's start. -/
theorem own_start {n : PUnit → Prog (TpuEff nD τ sig (Elt F) Λ₀ .tc) PUnit} {Q : PUnit → sProp 𝕄} (f : S16384x512.Idx → F .f32) :
    iprop(recs m K ∗ dutyTok ER (kcell (c, iO)) 0 0 ∗ (oloc c ↦[own c]{fullShare} f) ∗ (xloc c ↦{fullShare.left} xs m c))
      ⊢ iprop((cred (tallyAt (kcell (c, iO)) () NO) -∗ wpc c (n ⟨⟩) Q)
        -∗ wpc c (.op (.enqueueDma (Memref.whole cc0_stg0_0) (.here (oM c)) (.dma os) (Memref.isWhole_whole _).wordExact
          (View.wordExact_bits rfl) ⟨Or.inl rfl, trivial⟩) n) Q) := by
  rw [own_win, in_win]
  iintro ⟨#Hr, Ht, Ho, Hx⟩ Hk
  iapply (Rounds.wp_copy_pointsTo 𝒱₀ ER (Rd m) (c : Thread nD τ) none (src := (Memref.whole cc0_stg0_0 : Memref sig .tc .vmem S1024x512 .f32))
      (dst := oM c) (sem := .dma os) (κ := K (c, iO)) (r := 0) (d := 0) (q := fullShare.left) (fd := f) (fs := xs m c)
      ((duties_eq m c iO).symm ▸ Finset.mem_singleton_self _) () NO (own_amount c) (amount_eq m c iO 0) (own_done m c f)) $$ [Ht Ho Hx]
  · isplitr; · iapply (recs_inv m K (c, iO)); iexact Hr
    isplitl [Hx]; · iexact Hx
    isplitl [Ho]; · iexact Ho
    isplitl [Ht]; · iexact Ht
    iapply (recs_reached m K (c, iO)); iexact Hr
  iexact Hk

/-! ## The pipeline's data -/

/-- The staged input is the device's whole array. -/
theorem staged (t : Fin grid0.N) (f : S1024x512.Idx → F .f32) : ((win0_0.blk t).view.read (Elt F) f : S1024x512.Idx → F .f32) = f :=
  Memref.read_access_unit_zero (Elt F) main_arg0 (off := fun a => 0 * S1024x512.size a) (funext fun a => Nat.zero_mul _) _ f

/-- What the staging of the call fetches, keeps and passes around the body: the array goes in, the body leaves it as it was,
    and what the device holds goes from `Φ₀` to `Φ₁`. -/
def dats (_ : Fin 1) (c : Dev nD) : Dat τ (Elt F) Unit ℕ UU ℕ cfg0 c where
  A w := m ((cfg0.win w).arr.view.loc (c : Thread nD τ))
  after w _ := match w with
    | ⟨0, _⟩ => xs m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The input is fetched at the only step. -/
theorem fetch_0 (t : Fin grid0.N) : win0_0.fetch t = true := by rw [fin_N0 t]; rfl

/-- Before the body the staging buffer holds the device's array. -/
theorem before_eq (t : Fin grid0.N) (d) : ((dats (F := F) m 0 c).before (0 : Fin 1) t d : S1024x512.Idx → F .f32) = xs m c := by
  unfold Dat.before; rw [if_pos (fetch_0 t)]; exact staged (F := F) t _

omit [FloatOps F] in
/-- To own a whole buffer with contents `X` is to hold it in full, with `X` in it. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- The tokens of the copies to start and their rooms, regrouped copy by copy. -/
theorem first_state (W : Waits sig Unit) :
    iprop((bigSep Finset.univ fun k => dutyTok ER (kcell (c, iS k)) 0 0) ∗ (bigSep Finset.univ fun k => dutyTok ER (kcell (tgt k c, iR k)) 0 0)
        ∗ (bigSep Finset.univ fun k => atPos ER (kcell (c, iS k)) 0 ∅ 0) ∗ (bigSep Finset.univ fun k => room c k)
        ∗ (bigSep Finset.univ fun k => cred (tallyAt (kcell (c, iR k)) () (N k))) ∗ (bigSep Finset.univ fun k => atPos ER (kcell (c, iR k)) 0 ∅ 0)
        ∗ (xloc c ↦{fullShare.right} xs m c) ∗ owes (c : Thread nD τ) (toSend c Finset.univ) W)
      ⊢ inv m c st₀ := by
  unfold inv st₀ unst pend
  simp only [bigSep_empty]
  rw [bigSep_sep', bigSep_sep', bigSep_sep', bigSep_sep', ← in_split]
  iintro ⟨H1, H2, H3, H4, H5, H6, H7, HO⟩
  isplitl [H1 H2 H3 H4]
  · isplitl [H1]; · iexact H1
    isplitl [H2]; · iexact H2
    isplitl [H3]; · iexact H3
    iexact H4
  isplitr; · iempintro
  isplitr; · iempintro
  isplitl [H5 H6]; · (isplitl [H5] <;> iassumption)
  isplitr; · iempintro
  isplitl [H7]; · iexact H7
  iexists W; iexact HO

/-- What the last state and the local copy leave. -/
theorem last_state :
    iprop(inv m c st₁ ∗ ownPay m c ∗ semVal (kcell (c, iB)) 0 ∗ semVal (kcell (c, iO)) 0)
      ⊢ (iprop(Φ₁ m c ∗ (xloc c ↦{fullShare} xs m c) ∗ ∃ W, owes (c : Thread nD τ) 0 W) : sProp 𝕄) := by
  have hx := pointsTo_share (ℓ := xloc c) (I := Finset.univ) (Val := Elt F) (f := xs m c) (U := UU) (Ix := Unit) (Name := ℕ) (Lvl := ℕ)
    (PosShare.mem_left_op_right fullShare)
  unfold inv st₁ come gone Φ₁ ownPay
  rw [out_split, both, both, both, bigSep_sep']
  iintro ⟨⟨-, -, HD, -, ⟨HR, Hkp⟩, HA, ⟨%W, HO⟩⟩, ⟨Hown, Hx⟩, HB, HZ⟩
  ihave Hb := (all_back m c) $$ [Hkp HA]
  · isplitl [Hkp] <;> iassumption
  icases Hb with ⟨Hx', Hl⟩
  isplitl [Hown Hl HD HR HB HZ]
  · isplitl [Hown Hl]
    · isplitl [Hown]; · iexact Hown
      iexact Hl
    isplitl [HB]; · rw [Finset.univ_unique, bigSep_singleton]; iexact HB
    isplitl [HD]; · iexact HD
    isplitl [HR]; · iexact HR
    rw [Finset.univ_unique, bigSep_singleton]; iexact HZ
  isplitl [Hx Hx']
  · iapply hx.2; isplitl [Hx] <;> iassumption
  iexists W; iexact HO

/-- The wait for the local copy takes its credit. -/
theorem own_wait (G : PUnit → sProp 𝕄) : wpE (defs₀ (F := F)) 𝒱₀ (c : Thread nD τ) none Set.univ
      (.waitDma2 os (Memref.whole cc0_stg0_0) (oM c) (Memref.isWhole_whole _).wordExact (View.wordExact_bits rfl)) G
    = waitSpec (c : Thread nD τ) Set.univ (.dma os) NO G :=
  wpE_waitDma2_eq 𝒱₀ (c : Thread nD τ) none Set.univ G

set_option maxHeartbeats 1000000 in
/-- The body runs from its first end to its last. -/
theorem body_runs (W : Waits sig Unit) (f : S16384x512.Idx → F .f32) (Q : PUnit → sProp 𝕄) :
    iprop(ghost m K c ∗ cred (tallyAt (kcell (c, iB)) () 4) ∗ (bigSep Finset.univ fun k => cred (tallyAt (kcell (c, iR k)) () (N k)))
        ∗ levAts L lv ∗ (oloc c ↦{fullShare} f) ∗ (xloc c ↦{fullShare} xs m c) ∗ owes (c : Thread nD τ) (O₀ c) W)
      ⊢ iprop((iprop(Φ₁ m c ∗ (xloc c ↦{fullShare} xs m c) ∗ ∃ W, owes (c : Thread nD τ) 0 W) -∗ Q ⟨⟩) -∗ wpc c bodyProg Q) := by
  have hx := pointsTo_share (ℓ := xloc c) (I := Finset.univ) (Val := Elt F) (f := xs m c) (U := UU) (Ix := Unit) (Name := ℕ) (Lvl := ℕ)
    (PosShare.mem_left_op_right fullShare)
  have hspots : (bigSep Finset.univ fun k : Fin 45 => oloc c ↦[reg (lb k c) (part k)]{fullShare} f : sProp 𝕄)
      ⊢ iprop((bigSep (side 0) fun k => spot c k) ∗ (bigSep (side 1) fun k => spot c k) ∗ (bigSep (side 2) fun k => spot c k)
        ∗ bigSep (side 3) fun k => spot c k) := by
    exact (bigSep_mono (Ψ := fun k => spot c k) fun k _ => spot_intro c k f).trans
      (Entails.of_eq ((by_class dir fun k => spot c k).symm.trans (four _)))
  unfold ghost bodyProg O₀
  rw [out_split, four]
  simp only [wp_deviceId]
  iintro ⟨⟨#Hr, HaB, HaO, HtO, ⟨Ht0, Ht1, Ht2, Ht3⟩, HaS, HaR, HtS, HtR⟩, HcB, HcR, #Hl, ⟨Hown, Hreg⟩, Hx, HO⟩ Hk
  ihave Hs := hspots $$ Hreg
  icases Hs with ⟨Hs0, Hs1, Hs2, Hs3⟩
  ihave Hx := hx.1 $$ Hx
  icases Hx with ⟨Hxl, Hxr⟩
  iapply (signal_one m K c 1 _ (left_eq c) _ W) $$ [HO Ht1 Hs0]
  · isplitr; · iexact Hr
    isplitl [HO]; · iexact HO
    isplitl [Ht1]; · iexact Ht1
    iexact Hs0
  iintro HO
  iapply (signal_one m K c 0 _ (right_eq c) _ W) $$ [HO Ht0 Hs1]
  · isplitr; · iexact Hr
    isplitl [HO]; · iexact HO
    isplitl [Ht0]; · iexact Ht0
    iexact Hs1
  iintro HO
  iapply (signal_one m K c 2 _ (up_eq c) _ W) $$ [HO Ht2 Hs3]
  · isplitr; · iexact Hr
    isplitl [HO]; · iexact HO
    isplitl [Ht2]; · iexact Ht2
    iexact Hs3
  iintro HO
  iapply (signal_one m K c 3 _ (down_eq c) _ W) $$ [HO Ht3 Hs2]
  · isplitr; · iexact Hr
    isplitl [HO]; · iexact HO
    isplitl [Ht3]; · iexact Ht3
    iexact Hs2
  iintro HO
  iapply (barrier_wait m K c W) $$ [HcB HO HaB]
  · isplitr
    · unfold ctx; isplitr; · iexact Hr
      iexact Hl
    isplitl [HcB]; · iexact HcB
    isplitl [HO]; · iexact HO
    iexact HaB
  iintro ⟨HzB, Hroom, ⟨%W1, HO⟩⟩
  iapply (own_start m K c f) $$ [HtO Hown Hxl]
  · isplitr; · iexact Hr
    isplitl [HtO]; · iexact HtO
    isplitl [Hown]; · iexact Hown
    iexact Hxl
  iintro HcO
  iapply (run_acts m K c _) $$ [HtS HtR HaS Hroom HcR HaR Hxr HO]
  · isplitr
    · unfold ctx; isplitr; · iexact Hr
      iexact Hl
    iapply (first_state m c W1)
    isplitl [HtS]; · iexact HtS
    isplitl [HtR]; · iexact HtR
    isplitl [HaS]; · iexact HaS
    isplitl [Hroom]; · iexact Hroom
    isplitl [HcR]; · iexact HcR
    isplitl [HaR]; · iexact HaR
    isplitl [Hxr]; · iexact Hxr
    iexact HO
  unfold inv
  iintro ⟨HU, HF, HD, HP, HR, HA, ⟨%W2, HO⟩⟩
  iapply (await_one m K c (.inr (.inr 0)) (own_wait c) (toSend c st₁.U) W2) $$ [HcO HO HaO]
  · isplitr; · iexact Hr
    isplitl [HcO]; · iexact HcO
    isplitl [HO]; · iexact HO
    isplitr
    · unfold toSend st₁; rw [Finset.sum_empty, MayWait_zero]; iempintro
    iexact HaO
  iintro ⟨HzO, Hpay, HO⟩
  rw [wp_ret]; imodintro
  iapply Hk
  iapply (last_state m c)
  isplitl [HU HF HD HP HR HA HO]
  · unfold inv
    isplitl [HU]; · iexact HU
    isplitl [HF]; · iexact HF
    isplitl [HD]; · iexact HD
    isplitl [HP]; · iexact HP
    isplitl [HR]; · iexact HR
    isplitl [HA]; · iexact HA
    iexists _; iexact HO
  isplitl [Hpay]; · iapply (Entails.of_eq (show payOf m c iO 0 = ownPay m c from rfl)); iexact Hpay
  isplitl [HzB]; · iexact HzB
  iexact HzO

end Cert.KernelIdeal.Gather
-- ==== Proof.Run.lean ====
/-
# The run

The launch deals every device the tokens of its own semaphores. They are passed to the devices that pay with them
(`toks_around`), the semaphores' invariants are set up for all devices at once (`glob`), and the credit of what the
devices owe one another is collected at the cells it is owed to (`creds`). With the body's run this gives the whole
program's: it ends, from every memory with all semaphores at zero, with every device's output gathered (`run_main`).
-/
module

public import proofs.«01_k».proof.Proof.Body
public import Idealize.ShloMosaic.Lib.Pipeline.Quiescent

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

set_option maxRecDepth 65536 in
/-- At the grid's one point the body takes the invariant's first end to its last and keeps the staged input. -/
theorem body_obligation (c : Dev nD) : BodyObligation (dats (F := F) m 0 c) (defs₀ (F := F)) 𝒱₀ () Set.univ := fun t => by
  rw [fin_N0 t, bigSep_W0, bigSep_W0]
  simp only [owns_whole]
  show iprop(Φ₀ m c ∗ (dats m 0 c).owesAt () t0_0.castSucc
      ∗ ∃ d, ∃ f : S1024x512.Idx → F .f32, ⌜f = (dats m 0 c).before (0 : Fin 1) t0_0 d⌝ ∗ (xloc c ↦{fullShare} f))
    ⊢ wpc c (cc0_body (Memref.whole cc0_stg0_0) (Memref.isWhole_whole _) (Memref.whole main_v1) (Memref.isWhole_whole _)
        cc0_scratch0 cc0_scratch1 cc0_scratch2 cc0_scratch3 cc0_scratch4 cc0_scratch5 cc0_scratch6 cc0_scratch7 cc0_scratch8
        cc0_scratch9 cc0_scratch10 cc0_scratch11 cc0_scratch12)
      (fun _ => iprop(Φ₁ m c ∗ (dats m 0 c).owesAt () t0_0.succ ∗ ∃ f : S1024x512.Idx → F .f32, ⌜f = xs m c⌝ ∗ (xloc c ↦{fullShare} f)))
  rw [body_eq]
  unfold Φ₀ start Dat.owesAt Pipeline.owesWithin
  iintro ⟨⟨⟨⟨%K, Hg⟩, HcB, HcR, Hl⟩, ⟨%f, Ho⟩⟩, ⟨%W, -, HO⟩, ⟨%d, %x, %hx, Hx⟩⟩
  rw [before_eq] at hx
  subst hx
  iapply (body_runs m K c W f _) $$ [Hg HcB HcR Hl Ho Hx HO]
  · isplitl [Hg]; · iexact Hg
    isplitl [HcB]; · iexact HcB
    isplitl [HcR]; · iexact HcR
    isplitl [Hl]; · iexact Hl
    isplitl [Ho]; · iexact Ho
    isplitl [Hx]; · iexact Hx
    iexact HO
  iintro ⟨H1, Hx, ⟨%W', HO⟩⟩
  isplitl [H1]; · iexact H1
  isplitl [HO]
  · iexists W'
    isplitr; · (ipureintro; exact fun _ _ => Or.inl trivial)
    iexact HO
  iexists _
  isplitr; · (ipureintro; rfl)
  iexact Hx

/-! ## The launch's tokens -/

set_option maxRecDepth 65536 in
/-- The kernel's own semaphores are scoped, distinct and no staging semaphore. -/
theorem ownSemFacts : Pipeline.OwnSemFacts cfg0.spec osem := by decide +kernel

/-- Every cell the kernel uses. -/
def allCells : Finset (GSem nD τ sig) := Finset.univ.map ⟨kcell, kcell_inj⟩

/-- A duty of one of device `x.1`'s cells: the barrier's four, every other cell's one. -/
abbrev dutyOf (x : Dev nD × (Fin 4 ⊕ OI)) : GSem nD τ sig × ℕ × Fin 4 :=
  (kcell (x.1, x.2.elim (fun _ => iB) .inr), 0, x.2.elim id fun _ => 0)

/-- Different duties are different. -/
theorem dutyOf_inj : Function.Injective dutyOf := fun ⟨c, s⟩ ⟨c', s'⟩ h => by
  have hc := kcell_inj (congrArg Prod.fst h)
  have ha : s.elim id (fun _ => (0 : Fin 4)) = s'.elim id fun _ => 0 := congrArg (fun x : GSem nD τ sig × ℕ × Fin 4 => x.2.2) h
  obtain ⟨rfl, hs⟩ := Prod.mk.inj hc
  rcases s with a | i <;> rcases s' with a' | i'
  · exact congrArg (fun a => (c, Sum.inl a)) ha
  · exact absurd hs Sum.inl_ne_inr
  · exact absurd hs Sum.inr_ne_inl
  · exact congrArg (fun i => (c, Sum.inr i)) (Sum.inr_injective hs)

/-- Every duty. -/
def allDuties : Finset (GSem nD τ sig × ℕ × Fin 4) := Finset.univ.map ⟨dutyOf, dutyOf_inj⟩

/-- What the launch sets up: the staging cells, and the kernel's cells with their duties. -/
def u₀ : UU :=
  (initOf (Pipeline.cells cfgs cellOf_inj) (Pipeline.launchToks cfgs cellOf_inj), initOf allCells allDuties)

/-- The tokens of device `c`'s own cells. -/
def toks (c : Dev nD) : sProp 𝕄 :=
  bigSep Finset.univ fun s : Fin 4 ⊕ OI => dutyTok ER (dutyOf (c, s)).1 0 (dutyOf (c, s)).2.2

/-- What the launch deals device `c`. -/
def G (c : Dev nD) : sProp 𝕄 :=
  iprop((bigSep Finset.univ fun i : CI => roundState ER (Rd m) (kcell (c, i)) 0)
    ∗ (bigSep Finset.univ fun i : CI => atPos ER (kcell (c, i)) 0 ∅ 0) ∗ (bigSep Finset.univ fun i : CI => reached ER (kcell (c, i)) 0) ∗ toks c)

/-- What a device starts with. -/
def G' (c : Dev nD) : sProp 𝕄 := iprop(∃ K, ghost m K c)

/-- The launch's set-up is every device's deal. -/
theorem fund_cells : BI.own (ER (initOf allCells allDuties)) ⊢ (|==> bigSep Finset.univ (G m) : sProp 𝕄) := by
  have hX (Φ : GSem nD τ sig → sProp 𝕄) :
      bigSep allCells Φ = bigSep Finset.univ fun c : Dev nD => bigSep Finset.univ fun i : CI => Φ (kcell (c, i)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]; rfl
  refine (Rounds.fund ER (Rd m) allCells allDuties).trans (BI.bupd_mono (show (_ : sProp 𝕄) ⊢ _ from ?_))
  unfold G
  rw [hX, hX, hX, hT, bigSep_sep', bigSep_sep', bigSep_sep']
  iintro ⟨Hst, Hr, Hat, Ht⟩
  isplitl [Hst]; · iexact Hst
  isplitl [Hat]; · iexact Hat
  isplitl [Hr]; · iexact Hr
  iexact Ht

/-! ## The invariants -/

omit [FloatOps F] in
/-- The barrier semaphore is the one semaphore that outlives the kernel. -/
theorem unscoped_bar (c : Dev nD) : (unscopedSems0 c : sProp 𝕄) = semVal (kcell (c, iB)) 0 := by
  unfold unscopedSems0; rw [bigSep_eq_bigSepL_of_eq [SemLoc.reg barR] (by decide) (by decide)]; rfl

omit [FloatOps F] in
/-- The kernel's own semaphores and the barrier semaphore are all of its cells. -/
theorem all_sems (c : Dev nD) : (bigSep Finset.univ fun i : CI => semVal (kcell (c, i)) 0 : sProp 𝕄)
    = iprop(unscopedSems0 c ∗ Pipeline.ownSems0 osem c) := by
  rw [both, unscoped_bar, Finset.univ_unique, bigSep_singleton]; rfl

/-- One device's cells get their invariants. -/
theorem core_alloc (c : Dev nD) : iprop(Pipeline.ownSems0 osem c ∗ unscopedSems0 c ∗ G m c)
    ⊢ (|={Set.univ}=> iprop((bigSep Finset.univ fun i : CI => iprop(∃ κ : ℕ, cellInv ER (Rd m) κ (kcell (c, i))))
        ∗ (bigSep Finset.univ fun i : CI => atPos ER (kcell (c, i)) 0 ∅ 0)
        ∗ (bigSep Finset.univ fun i : CI => reached ER (kcell (c, i)) 0) ∗ toks c) : sProp 𝕄) := by
  have hI : iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  unfold G
  iintro ⟨Ho, Hu, Hst, Hrest⟩
  imod hI $$ [Ho Hu Hst] with Hinv
  · isplitl [Ho Hu]
    · rw [all_sems]; isplitl [Hu] <;> iassumption
    iexact Hst
  imodintro
  isplitl [Hinv]; · iexact Hinv
  iexact Hrest

/-! ## The tokens on their way -/

omit [FloatOps F] in
/-- A family over devices and indices, each index's members passed around by a permutation of its own. -/
theorem around {ι : Type} [Fintype ι] (e : ι → Dev nD ≃ Dev nD) (Φ : Dev nD → ι → sProp 𝕄) :
    (bigSep Finset.univ fun c => bigSep Finset.univ fun i => Φ c i) = bigSep Finset.univ fun c => bigSep Finset.univ fun i => Φ (e i c) i := by
  rw [swap, bigSep_congr fun i _ => bigSep_univ_equiv (e i) fun c => Φ c i, swap]

/-- To the neighbour on side `a` and back. -/
def nbE (a : Fin 4) : Dev nD ≃ Dev nD := ⟨nb a, nb (opp a), nb_opp_nb a, nb_nb_opp a⟩

/-- To copy `k`'s target and back. -/
def tgtE (k : Fin 45) : Dev nD ≃ Dev nD := ⟨tgt k, frm k, frm_tgt k, tgt_frm k⟩

/-- The sides, each for its opposite. -/
def oppE : Fin 4 ≃ Fin 4 := ⟨opp, opp, opp_opp, opp_opp⟩

/-- The tokens device `c` pays with. -/
def payToks (c : Dev nD) : sProp 𝕄 :=
  iprop((bigSep Finset.univ fun a => dutyTok ER (kcell (nb a c, iB)) 0 (opp a)) ∗ (bigSep Finset.univ fun k => dutyTok ER (kcell (c, iS k)) 0 0)
    ∗ (bigSep Finset.univ fun k => dutyTok ER (kcell (tgt k c, iR k)) 0 0) ∗ dutyTok ER (kcell (c, iO)) 0 0)

omit [FloatOps F] in
/-- Every token goes to the device that pays with it. -/
theorem toks_around : (bigSep Finset.univ fun c : Dev nD => (toks c : sProp 𝕄)) = bigSep Finset.univ fun c : Dev nD => payToks c := by
  have h1 (c : Dev nD) : (toks c : sProp 𝕄) = iprop((bigSep Finset.univ fun a => dutyTok ER (kcell (c, iB)) 0 (opp a))
      ∗ (bigSep Finset.univ fun k => dutyTok ER (kcell (c, iS k)) 0 0)
      ∗ (bigSep Finset.univ fun k => dutyTok ER (kcell (c, iR k)) 0 0) ∗ dutyTok ER (kcell (c, iO)) 0 0) := by
    unfold toks
    rw [both, both, both, bigSep_univ_equiv oppE, Finset.univ_unique (α := Fin 1), bigSep_singleton]; rfl
  unfold payToks
  rw [bigSep_congr fun c _ => h1 c, bigSep_sep', bigSep_sep', bigSep_sep', bigSep_sep', bigSep_sep', bigSep_sep',
    around nbE fun c a => dutyTok ER (kcell (c, iB)) 0 (opp a), around tgtE fun c k => dutyTok ER (kcell (c, iR k)) 0 0]
  rfl

/-- The records, a device's positions and the tokens it pays with are what it starts with. -/
theorem ghost_intro (K : Dev nD × CI → ℕ) (c : Dev nD) :
    iprop(recs m K ∗ (bigSep Finset.univ fun i : CI => atPos ER (kcell (c, i)) 0 ∅ 0) ∗ payToks c) ⊢ G' m c := by
  unfold payToks G' ghost
  rw [both, both, both, Finset.univ_unique (α := Fin 1), bigSep_singleton, bigSep_singleton]
  iintro ⟨Hr, ⟨HB, HS, HR, HO⟩, HtB, HtS, HtR, HtO⟩
  iexists K
  isplitl [Hr]; · iexact Hr
  isplitl [HB]; · iexact HB
  isplitl [HO]; · iexact HO
  isplitl [HtO]; · iexact HtO
  isplitl [HtB]; · iexact HtB
  isplitl [HS]; · iexact HS
  isplitl [HR]; · iexact HR
  isplitl [HtS]; · iexact HtS
  iexact HtR

omit [FloatOps F] in
/-- What persists may be used for every member of a family. -/
theorem with_all {ι : Type} [DecidableEq ι] (S : Finset ι) (R : sProp 𝕄) [BI.Persistent R] (Φ Ψ : ι → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants, positions and tokens are what all devices start with. -/
theorem regroup : (bigSep Finset.univ fun c : Dev nD =>
      iprop((bigSep Finset.univ fun i : CI => iprop(∃ κ : ℕ, cellInv ER (Rd m) κ (kcell (c, i))))
        ∗ (bigSep Finset.univ fun i : CI => atPos ER (kcell (c, i)) 0 ∅ 0)
        ∗ (bigSep Finset.univ fun i : CI => reached ER (kcell (c, i)) 0) ∗ toks c) : sProp 𝕄)
    ⊢ bigSep Finset.univ (G' m) := by
  rw [bigSep_sep', bigSep_sep', bigSep_sep', toks_around,
    ← bigSep_univ_prod (fun x : Dev nD × CI => iprop(∃ κ : ℕ, cellInv ER (Rd m) κ (kcell x))),
    ← bigSep_univ_prod (fun x : Dev nD × CI => (reached ER (kcell x) 0 : sProp 𝕄))]
  iintro ⟨HI, Hat, #HR, Ht⟩
  ihave HK := (BI.bigSep_exists_pi Finset.univ (fun (x : Dev nD × CI) (κ : ℕ) => (cellInv ER (Rd m) κ (kcell x) : sProp 𝕄))) $$ HI
  icases HK with ⟨%K, #HI⟩
  iapply (with_all Finset.univ (recs m K) (fun c : Dev nD => iprop((bigSep Finset.univ fun i : CI => atPos ER (kcell (c, i)) 0 ∅ 0) ∗ payToks c))
    (G' m) fun c _ => ghost_intro m K c)
  isplitr
  · unfold recs; isplitl; · iexact HI
    iexact HR
  rw [bigSep_sep']
  isplitl [Hat]; · iexact Hat
  iexact Ht

/-- The step over all devices at once. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

omit [FloatOps F] in
/-- The units the devices owe their neighbours on side `a` are one unit for each device. -/
theorem cred_bar (a : Fin 4) (c : Dev nD) : (Pipeline.launchCred (fun d => toBar d a) c : sProp 𝕄) ⊢ cred (tallyAt (kcell (c, iB)) () 1) :=
  Pipeline.launchCred_tallyAt (.reg barR) (nb a) (nb (opp a)) (nb_nb_opp a) (nb_opp_nb a) () 1 c

omit [FloatOps F] in
/-- What the devices owe for their copies is, for each device, the credit of the copies that land on it. -/
theorem cred_recv (c : Dev nD) : (Pipeline.launchCred (fun d => toSend d Finset.univ) c : sProp 𝕄)
    ⊢ bigSep Finset.univ fun k => cred (tallyAt (kcell (c, iR k)) () (N k)) := by
  unfold toSend
  rw [Pipeline.launchCred_sum Finset.univ (fun k d => tallyAt (kcell (tgt k d, iR k)) () (N k)) c]
  exact bigSep_mono fun k _ => Pipeline.launchCred_tallyAt (.dma (rs k)) (tgt k) (frm k) (tgt_frm k) (frm_tgt k) () (N k) c

omit [FloatOps F] in
/-- One more unit. -/
theorem one_more (g : GSem nD τ sig) (n : ℕ) :
    iprop(cred (tallyAt g () n) ∗ cred (tallyAt g () 1)) ⊢ (cred (tallyAt g () (n + 1)) : sProp 𝕄) := by
  rw [← tallyAt_add]; exact (cred_add _ _).2

omit [FloatOps F] in
/-- All that is owed to device `c`. -/
theorem creds (c : Dev nD) : (Pipeline.launchCred O₀ c : sProp 𝕄)
    ⊢ iprop(cred (tallyAt (kcell (c, iB)) () 4) ∗ bigSep Finset.univ fun k => cred (tallyAt (kcell (c, iR k)) () (N k))) := by
  show Pipeline.launchCred (fun d => toSend d Finset.univ + toBar d 3 + toBar d 2 + toBar d 0 + toBar d 1) c ⊢ _
  rw [Pipeline.launchCred_add (fun d => toSend d Finset.univ + toBar d 3 + toBar d 2 + toBar d 0) (fun d => toBar d 1),
    Pipeline.launchCred_add (fun d => toSend d Finset.univ + toBar d 3 + toBar d 2) (fun d => toBar d 0),
    Pipeline.launchCred_add (fun d => toSend d Finset.univ + toBar d 3) (fun d => toBar d 2),
    Pipeline.launchCred_add (fun d => toSend d Finset.univ) (fun d => toBar d 3)]
  iintro ⟨⟨⟨⟨HS, H3⟩, H2⟩, H0⟩, H1⟩
  ihave H3 := (cred_bar 3 c) $$ H3
  ihave H2 := (cred_bar 2 c) $$ H2
  ihave H0 := (cred_bar 0 c) $$ H0
  ihave H1 := (cred_bar 1 c) $$ H1
  isplitr [HS]
  · iapply (one_more (kcell (c, iB)) 3)
    isplitr [H1]
    · iapply (one_more (kcell (c, iB)) 2)
      isplitr [H0]
      · iapply (one_more (kcell (c, iB)) 1)
        isplitl [H3] <;> iassumption
      iexact H0
    iexact H1
  iapply (cred_recv c); iexact HS

/-! ## The launch's sides -/

/-- The launch's pieces are the start and the output. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(Φ₀ m c ∗ emp) : sProp 𝕄) := by
  rw [Pipeline.unscopedRestP_none, unscopedRest0_eq]
  iintro ⟨Ho, Hl, Hc, -, HG⟩
  ihave Hc := (creds (F := F) c) $$ Hc
  icases Hc with ⟨HB, HR⟩
  imodintro
  isplitl
  · unfold Φ₀ start
    isplitr [Ho]
    · isplitl [HG]; · (unfold G'; iexact HG)
      isplitl [HB]; · iexact HB
      isplitl [HR]; · iexact HR
      iexact Hl
    iexists _; iexact Ho
  · iempintro

/-- The kernel has no scratch buffer: the first end is what the launch hands over. -/
theorem first_end (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  show _ ⊢ Φ₀ m c
  iintro ⟨H, -⟩
  iexact H

/-- The last end gives the output and the semaphores back. -/
theorem last_end (c : Dev nD) : (dats m 0 c).Φ (Fin.last cfg0.N)
    ⊢ iprop(((oloc c ↦{fullShare} gat m) ∗ unscopedSems0 c) ∗ Pipeline.ownSems0 osem c ∗ Pipeline.scopedRest cfg0.spec c) := by
  rw [scopedRest0_eq]
  show Φ₁ m c ⊢ _
  unfold Φ₁
  rw [all_sems]
  iintro ⟨Ho, Hu, Hs⟩
  isplitl [Ho Hu]
  · isplitl [Ho] <;> iassumption
  isplitl [Hs]; · iexact Hs
  iempintro

set_option maxRecDepth 65536 in
/-- The staging semaphore is none of the kernel's. -/
theorem stage_other : kindOf (.dma (sem0_0 0)) = none := by decide +kernel

/-- Its level is the lowest. -/
theorem lv_stage (c : Dev nD) : lv ((c : Thread nD τ), .dma (sem0_0 0)) () = 0 := by dsimp only [lv]; rw [stage_other]

/-- The waits for the staging copy come below all that is owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; exact lv_stage c) _ (by
      rcases t with ⟨_ | _, ht⟩
      · exact Or.inl rfl
      · exact Or.inr rfl)

/-- At the end the output's contents and the barrier semaphore are read off. -/
theorem read_end (c : Dev nD) (s' : Phys nD τ sig (Elt F)) :
    iprop(((oloc c ↦{fullShare} gat m) ∗ unscopedSems0 c) ∗ emp ∗ SI s')
      ⊢ (|={Set.univ}=> iprop(⌜s'.mem.mem (oloc c) = gat m ∧ ∀ sm : SemLoc sig, sm.isScoped .tc = false → s'.mem.sem ((c.tc : Thread nD τ), sm) = 0⌝
          ∗ SI s') : sProp 𝕄) := by
  have ho := pointsTo_read_all (Ix := Unit) (Name := ℕ) (U := UU) (Lvl := ℕ) {()} (fun _ => oloc c) (fun _ => gat m) s'
  rw [bigSep_singleton] at ho
  iintro ⟨⟨Ho, Hu⟩, -, HSI⟩
  ihave H := ho $$ [Ho HSI]
  · isplitl [Ho] <;> iassumption
  icases H with ⟨%hmem, HSI⟩
  ihave %hsem := (tcUnscoped_read c s') $$ [Hu HSI]
  · isplitl [Hu] <;> iassumption
  imodintro
  isplitr
  · ipureintro; exact ⟨hmem () (Finset.mem_singleton_self _), hsem⟩
  iexact HSI

/-! ## The run -/

/-- What a run ends with: the inputs as they were, every device's output gathered, every semaphore at zero. -/
def Ends (s : MemSt nD τ sig (Elt F)) : Prop :=
  (∀ c : Dev nD, s.mem ((c : Thread nD τ).loc main_arg0) = m ((c : Thread nD τ).loc main_arg0) ∧ s.mem (oloc c) = gat m)
    ∧ s.sem = fun _ => 0

set_option maxRecDepth 65536 in
/-- From every memory with all semaphores at zero, for any float values, every run of the sixteen devices ends and
    ends so. -/
theorem run_main : θ_run defs (onTc (τ := τ) (main (F := F))) ⟨m, fun _ => 0, ρ⟩ fun r => Ends m r.2 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m)
    (hne := block_pos0) (harr := arr_whole0) (hstage := stage_whole0)
    (hshare := fun c w => by unfold Dat.share; split <;> rfl) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m) (hA := fun _ _ => rfl) (hpf := fun _ k => k.elim0)
    (X := Φ₀ m) (Y := fun c => iprop((oloc c ↦{fullShare} gat m) ∗ unscopedSems0 c)) (Z := fun _ => iprop(emp))
    (hX := start_intro m ρ) (hin := first_end m) (hout := last_end m)
    (QY := fun c s => s.mem (oloc c) = gat m ∧ ∀ sm : SemLoc sig, sm.isScoped .tc = false → s.sem ((c.tc : Thread nD τ), sm) = 0)
    (hY := read_end m)
    (hQ := fun _ h hs => ⟨fun c => ⟨((h c).1 0).trans ((dats (F := F) m 0 c).arrAt_in (0 : Fin 1) rfl _), (h c).2.2.1⟩,
      sem_eq_zero hs fun c => (h c).2.2.2⟩)

end Cert.KernelIdeal.Gather
-- ==== Proof.Value.lean ====
/-
# The claims

The gathered array of the blocks of an array is that array (`gath_blocks`). With the run of the sixteen devices
(`run_main`) and the run of the reference, which returns its argument, this gives every claim.
-/
module

public import proofs.«01_k».proof.Defs
public import proofs.«01_k».proof.Proof.Run
public import proofs.«01_k».proof.Proof.Gen.Kernel
public import proofs.«01_k».proof.Proof.Gen.ReferenceIdeal
public import Idealize.ShloMosaic.Adequacy
public import Idealize.ShloMosaic.Init

@[expose] public section

noncomputable section

namespace Cert.Proof

open Idealize.ShloMosaic Idealize.SL.Sem
open Cert.KernelIdeal.Gather

/-! ## The value -/

/-- Gathering the sixteen blocks of an array gives the array. -/
theorem gath_blocks {F : FTy → Type} (v : Cert.KernelIdeal.S16384x512.Idx → F .f32) :
    (gath fun c => Layout.block ⟨2, ![1024, 512]⟩ ⟨2, ![16384, 512]⟩ 0 16 c v) = v := by
  funext i
  have h : Layout.Tiles ⟨2, ![1024, 512]⟩ ⟨2, ![16384, 512]⟩ 0 16 := by decide
  have e := Layout.idx_rows_val h (blockOf i) (inBlock i)
  have e0 : (i 0).val / 1024 * 1024 + (i 0).val % 1024 = (i 0).val := Nat.div_add_mod' _ _
  show v (h.idx (blockOf i) (inBlock i)) = v i
  refine congrArg v (funext fun a => match a with
    | ⟨0, _⟩ => Fin.ext (e.1.trans e0)
    | ⟨1, _⟩ => Fin.ext e.2)

/-! ## The reference -/

section Reference

open Cert.ReferenceIdeal

/-- The reference does nothing: it leaves the whole memory as it was and every semaphore at zero. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (StableHlo.run_seq (by decide) (by decide) defs main (fun _ => []) (fun _ => rfl) (fun _ => trivial) m ρ)

end Reference

/-! ## The claims -/

set_option maxRecDepth 65536 in
/-- The kernel's body is its idealization's body, read at the machine's floats. -/
theorem same_body (s : Cert.Kernel.Λ₀.Args 0) :
    Cert.Kernel.defs₀ (F := Bits) .tc 0 s = Cert.KernelIdeal.defs₀ (F := Bits) .tc 0 s := rfl

/-- So the two tables of bodies are the same, -/
theorem same_table : Cert.Kernel.defs₀ (F := Bits) = Cert.KernelIdeal.defs₀ (F := Bits) :=
  funext fun
    | .tc => funext fun ⟨0, _⟩ => funext fun s => same_body s
    | .scScalar _ => rfl
    | .scVector _ _ => rfl

/-- also with the pipeline around them. -/
theorem same_defs : Cert.Kernel.defs (F := Bits) = Cert.KernelIdeal.defs (F := Bits) :=
  congrArg (Pipeline.defs Cert.Kernel.pcfgs) same_table

/-- The kernel, at the machine's floats, runs, keeps its input and ends with every semaphore at zero. -/
theorem frame_kernel : Cert.quiescent_Kernel := fun m ρ _ => by
  rw [same_defs]
  exact (θ_run (Cert.KernelIdeal.defs (F := Bits)) _ _).mono (fun _ h => ⟨fun c => (h.1 c).1, h.2⟩) (run_main (F := Bits) m ρ)

/-- So does its idealization, -/
theorem frame_ideal : Cert.quiescent_KernelIdeal := fun m ρ _ =>
  (θ_run Cert.KernelIdeal.defs _ _).mono (fun _ h => ⟨fun c => (h.1 c).1, h.2⟩) (run_main (F := Ideal) m ρ)

/-- and the reference. -/
theorem frame_reference : Cert.quiescent_ReferenceIdeal := fun m ρ _ => reference_run m ρ

/-- Every device's output is the reference's result. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.trans
      ((congrArg (gath (F := Ideal)) (funext hm)).trans (gath_blocks (F := Ideal) _)), (h.1 c).1⟩) (run_main (F := Ideal) m ρ),
    (θ_run Cert.ReferenceIdeal.defs _ _).mono (fun _ h => ⟨h.1 0, h.1 0⟩) (reference_run m' ρ')⟩

end Cert.Proof

end
-- ==== Proof.lean ====
/-
# The certificate

An all-gather over sixteen devices by remote copies. `Proof.Value` proves the claims one by one; here they are put
together, after the facts the programs state about themselves.
-/
module

public import proofs.«01_k».proof.Defs
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Both programs and the reference run to their end with nothing left pending, the idealized kernel is the kernel
    unchanged, and over the reals every device ends with the reference's array. -/
theorem claim : Cert.Claim := ⟨Cert.Kernel.Gen.facts, Cert.KernelIdeal.Gen.facts, Cert.ReferenceIdeal.Gen.facts,
  frame_kernel, frame_ideal, frame_reference, trivial, value⟩

end Cert.Proof

end
